-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_near_corner [hPre_near_corner : Cert.Pre_near_corner.Facts] (m : (ℓ : Loc Cert.KernelIdeal.nD Cert.KernelIdeal.τ Cert.KernelIdeal.sig) → Buf (Elt Ideal) ℓ) : Prop :=
  ∀ c : Dev Cert.KernelIdeal.nD,
    (Cert.Pre_near_corner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_near_corner [hPre_near_corner : Cert.Pre_near_corner.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near_corner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_near_corner [hKernelIdeal : Cert.KernelIdeal.Facts] [hPre_near_corner : Cert.Pre_near_corner.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_near_corner m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_near_corner [hReferenceIdeal : Cert.ReferenceIdeal.Facts] [hPre_near_corner : Cert.Pre_near_corner.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near_corner m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_near_corner [hKernelIdeal : Cert.KernelIdeal.Facts] [hReferenceIdeal : Cert.ReferenceIdeal.Facts] [hPre_near_corner : Cert.Pre_near_corner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_near_corner m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_near_corner : Cert.Pre_near_corner.Facts),
    quiescent_Kernel (hKernel := hKernel)
    ∧ quiescent_KernelIdeal (hKernelIdeal := hKernelIdeal)
    ∧ quiescent_KernelIdeal_pre_near_corner (hKernelIdeal := hKernelIdeal) (hPre_near_corner := hPre_near_corner)
    ∧ quiescent_ReferenceIdeal (hReferenceIdeal := hReferenceIdeal)
    ∧ quiescent_ReferenceIdeal_pre_near_corner (hReferenceIdeal := hReferenceIdeal) (hPre_near_corner := hPre_near_corner)
    ∧ preserves_Kernel_KernelIdeal
    ∧ algebraic_KernelIdeal_ReferenceIdeal_pre_near_corner (hKernelIdeal := hKernelIdeal) (hReferenceIdeal := hReferenceIdeal) (hPre_near_corner := hPre_near_corner)
-- ==== Pre_near_corner.lean ====
abbrev S2x32x224x224 : Shape := ⟨4, ![2, 32, 224, 224]⟩
abbrev S2x3x224x224 : Shape := ⟨4, ![2, 3, 224, 224]⟩
abbrev S2x2x224x224 : Shape := ⟨4, ![2, 2, 224, 224]⟩
abbrev S2x1x224x224 : Shape := ⟨4, ![2, 1, 224, 224]⟩
abbrev S_ : Shape := ⟨0, ![]⟩

class Facts : Prop where
  slices_S2x3x224x224_S2x2x224x224_0_0_0_0 : S2x3x224x224.Slices ![0, 0, 0, 0] S2x2x224x224
  slices_S2x3x224x224_S2x1x224x224_0_2_0_0 : S2x3x224x224.Slices ![0, 2, 0, 0] S2x1x224x224
  bcast_S_S2x2x224x224 : S_.BroadcastsInDim S2x2x224x224 (![] : Fin 0 → Fin S2x2x224x224.rank)
  reducesTo_S2x2x224x224_S_d0_1_2_3 : S2x2x224x224.ReducesTo [0, 1, 2, 3] S_
  h_S_ : 0 < S_.numel
  bcast_S_S2x1x224x224 : S_.BroadcastsInDim S2x1x224x224 (![] : Fin 0 → Fin S2x1x224x224.rank)
  reducesTo_S2x1x224x224_S_d0_1_2_3 : S2x1x224x224.ReducesTo [0, 1, 2, 3] S_

variable [Facts]

def fn {F : FTy → Type} [FloatOps F] (main_arg0 : FVec F S2x32x224x224 .f32) (main_arg1 : FVec F S2x3x224x224 .f32) : IVec S_ 1 :=
  let main_v0 : FVec F S2x2x224x224 .f32 := (extractStridedSlice S2x2x224x224 ![0, 0, 0, 0] · slices_S2x3x224x224_S2x2x224x224_0_0_0_0) main_arg1
  let main_v1 : FVec F S2x1x224x224 .f32 := (extractStridedSlice S2x1x224x224 ![0, 2, 0, 0] · slices_S2x3x224x224_S2x1x224x224_0_2_0_0) main_arg1
  let main_cst : FVec F S_ .f32 := constant S_ .f32 0x3F800000#32
  let main_v2 : FVec F S2x2x224x224 .f32 := broadcastInDim S2x2x224x224 ![] bcast_S_S2x2x224x224 main_cst
  let main_v3 : IVec S2x2x224x224 1 := cmpf .olt main_v0 main_v2
  let main_c : IVec S_ 1 := constantI S_ 1 1#1
  let main_v4 : IVec S_ 1 := (fun x v => Host.reduce IntOp.andi x v reducesTo_S2x2x224x224_S_d0_1_2_3 h_S_) main_v3 main_c
  let main_v5 : FVec F S2x1x224x224 .f32 := Host.absf main_v1
  let main_cst_0 : FVec F S_ .f32 := constant S_ .f32 0x7F800000#32
  let main_v6 : FVec F S2x1x224x224 .f32 := broadcastInDim S2x1x224x224 ![] bcast_S_S2x1x224x224 main_cst_0
  let main_v7 : IVec S2x1x224x224 1 := cmpf .olt main_v5 main_v6
  let main_c_1 : IVec S_ 1 := constantI S_ 1 1#1
  let main_v8 : IVec S_ 1 := (fun x v => Host.reduce IntOp.andi x v reducesTo_S2x1x224x224_S_d0_1_2_3 h_S_) main_v7 main_c_1
  let main_v9 : IVec S_ 1 := andi main_v4 main_v8
  main_v9
-- ==== Kernel.lean ====
abbrev S2x32x224x224 : Shape := ⟨4, ![2, 32, 224, 224]⟩
abbrev S2x3x224x224 : Shape := ⟨4, ![2, 3, 224, 224]⟩
abbrev S2x32x4x4 : Shape := ⟨4, ![2, 32, 4, 4]⟩
abbrev S2x32x16 : Shape := ⟨3, ![2, 32, 16]⟩
abbrev S8x8 : Shape := ⟨2, ![8, 8]⟩
abbrev S_ : Shape := ⟨0, ![]⟩
abbrev S2x32x1x16x1 : Shape := ⟨5, ![2, 32, 1, 16, 1]⟩
abbrev S1x1x8x1x8 : Shape := ⟨5, ![1, 1, 8, 1, 8]⟩
abbrev S2x32x8x16x8 : Shape := ⟨5, ![2, 32, 8, 16, 8]⟩
abbrev S2x256x128 : Shape := ⟨3, ![2, 256, 128]⟩
abbrev S1x3x112x224 : Shape := ⟨4, ![1, 3, 112, 224]⟩
abbrev S1x256x128 : Shape := ⟨3, ![1, 256, 128]⟩
abbrev S1x32x112x224 : Shape := ⟨4, ![1, 32, 112, 224]⟩
abbrev S1x1x112x224 : Shape := ⟨4, ![1, 1, 112, 224]⟩
abbrev S112x224 : Shape := ⟨2, ![112, 224]⟩
abbrev S1x112x224 : Shape := ⟨3, ![1, 112, 224]⟩
abbrev S16x112x224 : Shape := ⟨3, ![16, 112, 224]⟩
abbrev S256x128 : Shape := ⟨2, ![256, 128]⟩
abbrev S16x8x224 : Shape := ⟨3, ![16, 8, 224]⟩
abbrev S128x224 : Shape := ⟨2, ![128, 224]⟩
abbrev S256x224 : Shape := ⟨2, ![256, 224]⟩
abbrev S32x8x224 : Shape := ⟨3, ![32, 8, 224]⟩
abbrev S1x32x8x224 : Shape := ⟨4, ![1, 32, 8, 224]⟩

abbrev nBuf : Space → Nat
  | .hbm => 18
  | .vmem => 6
  | .smem => 0
  | _ => 0

abbrev bufTy : (tb : Table) → Fin (tcTables nBuf tb) → BufTy
  | .hbm, ⟨0, _⟩ => ⟨S2x32x224x224, .f32⟩
  | .hbm, ⟨1, _⟩ => ⟨S2x3x224x224, .f32⟩
  | .hbm, ⟨2, _⟩ => ⟨S2x32x4x4, .f32⟩
  | .hbm, ⟨3, _⟩ => ⟨S2x32x16, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S2x32x1x16x1, .f32⟩
  | .hbm, ⟨12, _⟩ => ⟨S1x1x8x1x8, .f32⟩
  | .hbm, ⟨13, _⟩ => ⟨S2x32x8x16x8, .f32⟩
  | .hbm, ⟨14, _⟩ => ⟨S2x32x8x16x8, .f32⟩
  | .hbm, ⟨15, _⟩ => ⟨S2x32x8x16x8, .f32⟩
  | .hbm, ⟨16, _⟩ => ⟨S2x256x128, .f32⟩
  | .hbm, ⟨17, _⟩ => ⟨S2x32x224x224, .f32⟩
  | .local _ .vmem, ⟨0, _⟩ => ⟨S1x3x112x224, .f32⟩
  | .local _ .vmem, ⟨1, _⟩ => ⟨S1x3x112x224, .f32⟩
  | .local _ .vmem, ⟨2, _⟩ => ⟨S1x256x128, .f32⟩
  | .local _ .vmem, ⟨3, _⟩ => ⟨S1x256x128, .f32⟩
  | .local _ .vmem, ⟨4, _⟩ => ⟨S1x32x112x224, .f32⟩
  | .local _ .vmem, ⟨5, _⟩ => ⟨S1x32x112x224, .f32⟩
  | _, _ => ⟨S2x32x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_c : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x112x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x112x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x32x224x224 : Shape := ⟨4, ![2, 32, 224, 224]⟩
abbrev S2x3x224x224 : Shape := ⟨4, ![2, 3, 224, 224]⟩
abbrev S2x2x224x224 : Shape := ⟨4, ![2, 2, 224, 224]⟩
abbrev S2x224x224x2 : Shape := ⟨4, ![2, 224, 224, 2]⟩
abbrev S2x224x224x1x1x2 : Shape := ⟨6, ![2, 224, 224, 1, 1, 2]⟩
abbrev S2x1x224x224 : Shape := ⟨4, ![2, 1, 224, 224]⟩
abbrev S2x224x224x1 : Shape := ⟨4, ![2, 224, 224, 1]⟩
abbrev S2x224x224x1x1x1 : Shape := ⟨6, ![2, 224, 224, 1, 1, 1]⟩
abbrev S_ : Shape := ⟨0, ![]⟩
abbrev S4 : Shape := ⟨1, ![4]⟩
abbrev S1 : Shape := ⟨1, ![1]⟩
abbrev S5 : Shape := ⟨1, ![5]⟩
abbrev S5x1 : Shape := ⟨2, ![5, 1]⟩
abbrev S1x5 : Shape := ⟨2, ![1, 5]⟩
abbrev S5x1x5 : Shape := ⟨3, ![5, 1, 5]⟩
abbrev S5x5 : Shape := ⟨2, ![5, 5]⟩
abbrev S1x5x5 : Shape := ⟨3, ![1, 5, 5]⟩
abbrev S5x5x1 : Shape := ⟨3, ![5, 5, 1]⟩
abbrev S5x5x2 : Shape := ⟨3, ![5, 5, 2]⟩
abbrev S1x1x1x5x5x2 : Shape := ⟨6, ![1, 1, 1, 5, 5, 2]⟩
abbrev S1x1x1x5x5x1 : Shape := ⟨6, ![1, 1, 1, 5, 5, 1]⟩
abbrev S2x224x224x5x5x1 : Shape := ⟨6, ![2, 224, 224, 5, 5, 1]⟩
abbrev S2x224x224x5x5x2 : Shape := ⟨6, ![2, 224, 224, 5, 5, 2]⟩
abbrev S2x224x224x5x5 : Shape := ⟨5, ![2, 224, 224, 5, 5]⟩
abbrev S2x224x224x32 : Shape := ⟨4, ![2, 224, 224, 32]⟩
abbrev S2x224x224x5x5x32 : Shape := ⟨6, ![2, 224, 224, 5, 5, 32]⟩

abbrev nBuf : Space → Nat
  | .hbm => 149
  | .vmem => 0
  | .smem => 0
  | _ => 0

abbrev hbmTy0_0 (i : Nat) : BufTy := match i % 128 with
  | 0 => ⟨S2x32x224x224, .f32⟩
  | 1 => ⟨S2x3x224x224, .f32⟩
  | 2 => ⟨S2x2x224x224, .f32⟩
  | 3 => ⟨S2x224x224x2, .f32⟩
  | 4 => ⟨S2x224x224x1x1x2, .f32⟩
  | 5 => ⟨S2x1x224x224, .f32⟩
  | 6 => ⟨S2x224x224x1, .f32⟩
  | 7 => ⟨S2x224x224x1x1x1, .f32⟩
  | 8 => ⟨S_, .f32⟩
  | 9 => ⟨S_, .i32⟩
  | 10 => ⟨S_, .f32⟩
  | 11 => ⟨S_, .f32⟩
  | 12 => ⟨S_, .f32⟩
  | 13 => ⟨S_, .f32⟩
  | 14 => ⟨S_, .f32⟩
  | 15 => ⟨S4, .f32⟩
  | 16 => ⟨S_, .f32⟩
  | 17 => ⟨S4, .f32⟩
  | 18 => ⟨S4, .f32⟩
  | 19 => ⟨S1, .f32⟩
  | 20 => ⟨S_, .f32⟩
  | 21 => ⟨S4, .f32⟩
  | 22 => ⟨S4, .f32⟩
  | 23 => ⟨S4, .f32⟩
  | 24 => ⟨S4, .f32⟩
  | 25 => ⟨S1, .f32⟩
  | 26 => ⟨S4, .f32⟩
  | 27 => ⟨S4, .f32⟩
  | 28 => ⟨S4, .f32⟩
  | 29 => ⟨S1, .f32⟩
  | 30 => ⟨S5, .f32⟩
  | 31 => ⟨S5x1, .f32⟩
  | 32 => ⟨S_, .f32⟩
  | 33 => ⟨S_, .i32⟩
  | 34 => ⟨S_, .f32⟩
  | 35 => ⟨S_, .f32⟩
  | 36 => ⟨S_, .f32⟩
  | 37 => ⟨S_, .f32⟩
  | 38 => ⟨S_, .f32⟩
  | 39 => ⟨S4, .f32⟩
  | 40 => ⟨S_, .f32⟩
  | 41 => ⟨S4, .f32⟩
  | 42 => ⟨S4, .f32⟩
  | 43 => ⟨S1, .f32⟩
  | 44 => ⟨S_, .f32⟩
  | 45 => ⟨S4, .f32⟩
  | 46 => ⟨S4, .f32⟩
  | 47 => ⟨S4, .f32⟩
  | 48 => ⟨S4, .f32⟩
  | 49 => ⟨S1, .f32⟩
  | 50 => ⟨S4, .f32⟩
  | 51 => ⟨S4, .f32⟩
  | 52 => ⟨S4, .f32⟩
  | 53 => ⟨S1, .f32⟩
  | 54 => ⟨S5, .f32⟩
  | 55 => ⟨S1x5, .f32⟩
  | 56 => ⟨S5x1x5, .f32⟩
  | 57 => ⟨S5x5, .f32⟩
  | 58 => ⟨S_, .f32⟩
  | 59 => ⟨S5x5, .f32⟩
  | 60 => ⟨S5x5, .f32⟩
  | 61 => ⟨S1x5x5, .f32⟩
  | 62 => ⟨S5x5, .f32⟩
  | 63 => ⟨S_, .f32⟩
  | 64 => ⟨S5x5, .f32⟩
  | 65 => ⟨S5x5, .f32⟩
  | 66 => ⟨S5x5x1, .f32⟩
  | 67 => ⟨S5x5x1, .f32⟩
  | 68 => ⟨S5x5x2, .f32⟩
  | 69 => ⟨S1x1x1x5x5x2, .f32⟩
  | 70 => ⟨S1x1x1x5x5x1, .f32⟩
  | 71 => ⟨S1x1x1x5x5x1, .f32⟩
  | 72 => ⟨S_, .f32⟩
  | 73 => ⟨S2x224x224x1x1x1, .f32⟩
  | 74 => ⟨S2x224x224x1x1x1, .f32⟩
  | 75 => ⟨S2x224x224x1x1x1, .f32⟩
  | 76 => ⟨S2x224x224x5x5x1, .f32⟩
  | 77 => ⟨S2x224x224x5x5x1, .f32⟩
  | 78 => ⟨S2x224x224x5x5x1, .f32⟩
  | 79 => ⟨S_, .f32⟩
  | 80 => ⟨S2x224x224x1x1x1, .f32⟩
  | 81 => ⟨S2x224x224x1x1x1, .f32⟩
  | 82 => ⟨S2x224x224x1x1x1, .f32⟩
  | 83 => ⟨S2x224x224x5x5x1, .f32⟩
  | 84 => ⟨S2x224x224x5x5x1, .f32⟩
  | 85 => ⟨S2x224x224x5x5x1, .f32⟩
  | 86 => ⟨S2x224x224x5x5x1, .f32⟩
  | 87 => ⟨S_, .f32⟩
  | 88 => ⟨S2x224x224x1x1x1, .f32⟩
  | 89 => ⟨S2x224x224x1x1x1, .f32⟩
  | 90 => ⟨S2x224x224x1x1x1, .f32⟩
  | 91 => ⟨S2x224x224x5x5x1, .f32⟩
  | 92 => ⟨S2x224x224x5x5x1, .f32⟩
  | 93 => ⟨S2x224x224x5x5x1, .f32⟩
  | 94 => ⟨S_, .f32⟩
  | 95 => ⟨S2x224x224x1x1x1, .f32⟩
  | 96 => ⟨S2x224x224x1x1x1, .f32⟩
  | 97 => ⟨S2x224x224x1x1x1, .f32⟩
  | 98 => ⟨S2x224x224x5x5x1, .f32⟩
  | 99 => ⟨S2x224x224x5x5x1, .f32⟩
  | 100 => ⟨S2x224x224x5x5x1, .f32⟩
  | 101 => ⟨S2x224x224x5x5x1, .f32⟩
  | 102 => ⟨S2x224x224x5x5x2, .f32⟩
  | 103 => ⟨S2x224x224x5x5x2, .f32⟩
  | 104 => ⟨S2x224x224x5x5x2, .f32⟩
  | 105 => ⟨S2x224x224x5x5x1, .f32⟩
  | 106 => ⟨S2x224x224x5x5, .f32⟩
  | 107 => ⟨S_, .f32⟩
  | 108 => ⟨S_, .i32⟩
  | 109 => ⟨S_, .f32⟩
  | 110 => ⟨S2x224x224x5x5, .f32⟩
  | 111 => ⟨S2x224x224x5x5, .f32⟩
  | 112 => ⟨S_, .f32⟩
  | 113 => ⟨S2x224x224x5x5, .f32⟩
  | 114 => ⟨S2x224x224x5x5, .f32⟩
  | 115 => ⟨S2x224x224x5x5x1, .f32⟩
  | 116 => ⟨S2x224x224x5x5, .f32⟩
  | 117 => ⟨S_, .f32⟩
  | 118 => ⟨S_, .i32⟩
  | 119 => ⟨S_, .f32⟩
  | 120 => ⟨S2x224x224x5x5, .f32⟩
  | 121 => ⟨S2x224x224x5x5, .f32⟩
  | 122 => ⟨S_, .f32⟩
  | 123 => ⟨S2x224x224x5x5, .f32⟩
  | 124 => ⟨S2x224x224x5x5, .f32⟩
  | 125 => ⟨S2x224x224x32, .f32⟩
  | 126 => ⟨S2x224x224x5x5, .i32⟩
  | 127 => ⟨S2x224x224x5x5, .i32⟩
  | _ => ⟨S2x32x224x224, .f32⟩

abbrev hbmTy0_1 (i : Nat) : BufTy := match i % 128 with
  | 0 => ⟨S_, .i32⟩
  | 1 => ⟨S2x224x224x5x5, .i32⟩
  | 2 => ⟨S2x224x224x5x5, .i1⟩
  | 3 => ⟨S_, .i32⟩
  | 4 => ⟨S2x224x224x5x5, .i32⟩
  | 5 => ⟨S2x224x224x5x5, .i32⟩
  | 6 => ⟨S2x224x224x5x5, .i32⟩
  | 7 => ⟨S_, .i32⟩
  | 8 => ⟨S2x224x224x5x5, .i32⟩
  | 9 => ⟨S2x224x224x5x5, .i1⟩
  | 10 => ⟨S_, .i32⟩
  | 11 => ⟨S2x224x224x5x5, .i32⟩
  | 12 => ⟨S2x224x224x5x5, .i32⟩
  | 13 => ⟨S2x224x224x5x5, .i32⟩
  | 14 => ⟨S2x224x224x5x5x1, .i32⟩
  | 15 => ⟨S2x224x224x5x5x1, .i32⟩
  | 16 => ⟨S2x224x224x5x5x2, .i32⟩
  | 17 => ⟨S2x224x224x5x5x32, .f32⟩
  | 18 => ⟨S_, .f32⟩
  | 19 => ⟨S2x224x224x32, .f32⟩
  | 20 => ⟨S2x32x224x224, .f32⟩
  | _ => ⟨S2x32x224x224, .f32⟩

abbrev hbmTy (i : Nat) : BufTy := match i / 128 with
  | 0 => hbmTy0_0 i
  | 1 => hbmTy0_1 i
  | _ => ⟨S2x32x224x224, .f32⟩

abbrev bufTy : (tb : Table) → Fin (tcTables nBuf tb) → BufTy
  | .hbm, ⟨i, _⟩ => hbmTy i
  | _, _ => ⟨S2x32x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_cst : Ref sig .tc := ⟨.hbm, 37, rfl⟩
abbrev main_call1_v3 : Ref sig .tc := ⟨.hbm, 38, rfl⟩
abbrev main_call1_v4 : Ref sig .tc := ⟨.hbm, 39, rfl⟩
abbrev main_call1_cst_0 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_v15 : Ref sig .tc := ⟨.hbm, 52, rfl⟩
abbrev main_call1_v16 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_3 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_4 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_5 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_6 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_7 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_8 : Ref sig .tc := ⟨.hbm, 107, rfl⟩
abbrev main_c_9 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_10 : Ref sig .tc := ⟨.hbm, 117, rfl⟩
abbrev main_c_11 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_12 : Ref sig .tc := ⟨.hbm, 128, rfl⟩
abbrev main_v62 : Ref sig .tc := ⟨.hbm, 129, rfl⟩
abbrev main_v63 : Ref sig .tc := ⟨.hbm, 130, rfl⟩
abbrev main_c_13 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_c_14 : Ref sig .tc := ⟨.hbm, 135, rfl⟩
abbrev main_v67 : Ref sig .tc := ⟨.hbm, 136, rfl⟩
abbrev main_v68 : Ref sig .tc := ⟨.hbm, 137, rfl⟩
abbrev main_c_15 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_cst_16 : Ref sig .tc := ⟨.hbm, 146, rfl⟩
abbrev main_v76 : Ref sig .tc := ⟨.hbm, 147, rfl⟩
abbrev main_v77 : Ref sig .tc := ⟨.hbm, 148, rfl⟩

abbrev nD : Nat := 1
abbrev τ : Topo := Topo.v7x

variable {F : FTy → Type} [FloatOps F]
-- ==== Proof.Digits.lean ====
/- The arithmetic behind the kernel's counters. The kernel counts, for each of the sixteen corner cells, how
   many of the twenty-five patch points fall into it. It keeps one sum per row of cells, in which a point of
   column `v` adds the weight `64^(-v)`, so that the four counts of the row are the four base-64 digits of the
   sum, and it reads the digits off by taking whole parts. Everything here is about real numbers. -/
module

public import Idealize.ShloMosaic.PureOps.Ideal.Laws

@[expose] public section

noncomputable section

namespace Cert.Count

/-- The cell, out of four, that a coordinate falls into: its whole part, cut to the range 0 to 3. -/
def bin (x : ℝ) : Fin 4 := if x < 1 then 0 else if x < 2 then 1 else if x < 3 then 2 else 3

/-- The weight a point of column `v` adds to its row's sum: `64^(-v)`. -/
def wt (v : Fin 4) : ℝ := (1 / 64 : ℝ) ^ (v : ℕ)

/-- The kernel's rescaled remainder: what is left of a sum once its leading digit is taken off, times 64. -/
def rest (a : ℝ) : ℝ := (a - (⌊a⌋ : ℝ)) * 64

/-- A number below `u + 1` falls into one of the first `u + 1` cells, and conversely, for the three inner bounds. -/
theorem lt_iff_bin (x : ℝ) (u : Fin 3) : x < ((u : ℕ) : ℝ) + 1 ↔ (bin x : ℕ) ≤ (u : ℕ) := by
  unfold bin
  fin_cases u <;> simp <;> split_ifs <;> simp <;> linarith

/-- A cell is numbered 3 at most. -/
theorem bin_le (x : ℝ) : (bin x : ℕ) ≤ 3 := by have := (bin x).isLt; omega

/-- A sum of a whole number and base-64 fractions with digits below 63 has that whole number as its whole part. -/
theorem floor_digits (n0 n1 n2 n3 : ℕ) (h1 : n1 ≤ 62) (h2 : n2 ≤ 62) (h3 : n3 ≤ 62) :
    ⌊(n0 : ℝ) + n1 / 64 + n2 / 64 ^ 2 + n3 / 64 ^ 3⌋ = (n0 : ℤ) := by
  have h1' : (n1 : ℝ) ≤ 62 := by exact_mod_cast h1
  have h2' : (n2 : ℝ) ≤ 62 := by exact_mod_cast h2
  have h3' : (n3 : ℝ) ≤ 62 := by exact_mod_cast h3
  rw [Int.floor_eq_iff]
  push_cast
  constructor
  · have : (0 : ℝ) ≤ n1 := by positivity
    have : (0 : ℝ) ≤ n2 := by positivity
    have : (0 : ℝ) ≤ n3 := by positivity
    linarith
  · linarith

/-- Taking the leading digit off shifts the others up by one place. -/
theorem rest_digits (n0 n1 n2 n3 : ℕ) (h1 : n1 ≤ 62) (h2 : n2 ≤ 62) (h3 : n3 ≤ 62) :
    rest ((n0 : ℝ) + n1 / 64 + n2 / 64 ^ 2 + n3 / 64 ^ 3) = (n1 : ℝ) + n2 / 64 + n3 / 64 ^ 2 + (0 : ℕ) / 64 ^ 3 := by
  unfold rest
  rw [floor_digits n0 n1 n2 n3 h1 h2 h3]
  push_cast
  ring

/-- What the kernel reads off a sum as its digit `v`: three whole parts of successive remainders, and the last remainder. -/
def digit (a : ℝ) : Fin 4 → ℝ
  | 0 => (⌊a⌋ : ℝ)
  | 1 => (⌊rest a⌋ : ℝ)
  | 2 => (⌊rest (rest a)⌋ : ℝ)
  | 3 => rest (rest (rest a))

/-- The digits the kernel reads off are the digits the sum was made of. -/
theorem digit_eq (n : Fin 4 → ℕ) (h : ∀ v, n v ≤ 62) (v : Fin 4) : digit (∑ v, (n v : ℝ) * wt v) v = (n v : ℝ) := by
  have hs : (∑ v, (n v : ℝ) * wt v) = (n 0 : ℝ) + n 1 / 64 + n 2 / 64 ^ 2 + n 3 / 64 ^ 3 := by
    simp only [Fin.sum_univ_four, wt, Fin.coe_ofNat_eq_mod]
    norm_num
    ring
  have r1 := rest_digits (n 0) (n 1) (n 2) (n 3) (h 1) (h 2) (h 3)
  have r2 := rest_digits (n 1) (n 2) (n 3) 0 (h 2) (h 3) (by norm_num)
  have r3 := rest_digits (n 2) (n 3) 0 0 (h 3) (by norm_num) (by norm_num)
  rw [hs]
  fin_cases v
  · simp only [digit]
    rw [floor_digits _ _ _ _ (h 1) (h 2) (h 3)]; simp
  · simp only [digit]
    rw [r1, floor_digits _ _ _ _ (h 2) (h 3) (by norm_num)]; simp
  · simp only [digit]
    rw [r1, r2, floor_digits _ _ _ _ (h 3) (by norm_num) (by norm_num)]; simp
  · simp only [digit]
    rw [r1, r2, r3]; simp

variable {ι : Type*} [Fintype ι] (x y : ι → ℝ)

/-- How many of the points fall into cell `(u, v)`. -/
def cnt (u v : Fin 4) : ℕ := (Finset.univ.filter fun k => bin (x k) = u ∧ bin (y k) = v).card

/-- The kernel's running sum for the rows up to `u`: a point whose row is at most `u` adds its column's weight. -/
def upTo (u : Fin 4) : ℝ := ∑ k, if (bin (x k) : ℕ) ≤ (u : ℕ) then wt (bin (y k)) else 0

/-- The kernel's sum for row `u` alone: a difference of two running sums, but for the first row. -/
def rowSum : Fin 4 → ℝ
  | 0 => upTo x y 0
  | 1 => upTo x y 1 - upTo x y 0
  | 2 => upTo x y 2 - upTo x y 1
  | 3 => upTo x y 3 - upTo x y 2

/-- The row's sum adds up the weights of the points in that row. -/
theorem rowSum_eq_sum (u : Fin 4) : rowSum x y u = ∑ k, if bin (x k) = u then wt (bin (y k)) else 0 := by
  fin_cases u <;> simp only [rowSum, upTo, ← Finset.sum_sub_distrib] <;>
    refine Finset.sum_congr rfl fun k _ => ?_ <;> generalize bin (x k) = b <;> fin_cases b <;> simp

/-- Grouped by column, the row's sum has the counts of its cells as digits. -/
theorem rowSum_eq_digits (u : Fin 4) : rowSum x y u = ∑ v, (cnt x y u v : ℝ) * wt v := by
  rw [rowSum_eq_sum]
  have h : ∀ v, (cnt x y u v : ℝ) * wt v = ∑ k, if bin (x k) = u ∧ bin (y k) = v then wt v else 0 := fun v => by
    rw [← Finset.sum_filter, Finset.sum_const, nsmul_eq_mul]; rfl
  simp only [h]
  rw [Finset.sum_comm]
  refine Finset.sum_congr rfl fun k _ => ?_
  by_cases hu : bin (x k) = u <;> simp [hu]

/-- The digit the kernel reads off row `u`'s sum is the count of the cell, so long as there are at most 62 points. -/
theorem digit_rowSum (h : Fintype.card ι ≤ 62) (u v : Fin 4) : digit (rowSum x y u) v = (cnt x y u v : ℝ) := by
  rw [rowSum_eq_digits]
  exact digit_eq (cnt x y u) (fun v => (Finset.card_le_univ _).trans h) v

/-- Sixteen values weighted by the counts of their cells add up to the sum, over the points, of the value of the
    cell each falls into. No value need be finite: a count times a value is the value added that many times. -/
theorem sum_cnt (f : Fin 4 → Fin 4 → EReal) :
    (∑ u, ∑ v, f u v * ((cnt x y u v : ℝ) : EReal)) = ∑ k, f (bin (x k)) (bin (y k)) := by
  have h : ∀ u v, f u v * ((cnt x y u v : ℝ) : EReal) = ∑ k, if bin (x k) = u ∧ bin (y k) = v then f u v else 0 := fun u v => by
    rw [← Finset.sum_filter, Finset.sum_const, EReal.nsmul_eq_mul, mul_comm]
    rfl
  simp only [h]
  rw [Finset.sum_congr rfl fun u _ => Finset.sum_comm, Finset.sum_comm]
  refine Finset.sum_congr rfl fun k _ => ?_
  rw [Finset.sum_eq_single (bin (x k)) (fun u _ hu => by simp [Ne.symm hu]) (by simp),
    Finset.sum_eq_single (bin (y k)) (fun v _ hv => by simp [Ne.symm hv]) (by simp)]
  simp

end Cert.Count

end
-- ==== Proof.Patch.lean ====
/- The patch both programs sample: twenty-five points, a 5 by 5 grid of offsets turned by an angle and moved to a
   centre. Where the points are, and that a centre below 1 puts every point below 4, so that a point's cell is one of the
   four the kernel counts. A centre is an extended real: at -∞ every point lies in cell 0, as it does for the real centre
   -3, and so -3 stands for it. -/
module

public import proofs.«01_k».proof.Proof.Digits

@[expose] public section

noncomputable section

namespace Cert.Count

/-- The grid's offsets: -2, -1, 0, 1, 2. -/
def off (k : Fin 5) : ℝ := (k : ℝ) - 2

/-- The first coordinate of the patch point `(i, j)`, for the centre's coordinate `ci` and the angle's sine and cosine. -/
def px (ci s c : ℝ) (k : Fin 5 × Fin 5) : ℝ := ci + (off k.1 * s - off k.2 * c)

/-- The second coordinate of the patch point `(i, j)`. -/
def py (cj s c : ℝ) (k : Fin 5 × Fin 5) : ℝ := cj + (off k.1 * c - off k.2 * s)

/-- An offset is at most 2 either way. -/
theorem off_sq_le (k : Fin 5) : off k ^ 2 ≤ 4 := by
  fin_cases k <;> norm_num [off]

/-- A turned offset is less than 3 either way: its length is at most the square root of 8. -/
theorem turned_lt (a b s c : ℝ) (ha : a ^ 2 ≤ 4) (hb : b ^ 2 ≤ 4) (h : s ^ 2 + c ^ 2 = 1) : a * s - b * c < 3 := by
  have hsq : (a * s - b * c) ^ 2 ≤ 8 := by
    have : (a * s - b * c) ^ 2 + (a * c + b * s) ^ 2 = (a ^ 2 + b ^ 2) * (s ^ 2 + c ^ 2) := by ring
    rw [h] at this
    nlinarith [sq_nonneg (a * c + b * s)]
  nlinarith

/-- The whole part of a number below 4, cut to 0 from below, is its cell. -/
theorem floor_max_eq_bin (x : ℝ) (h : x < 4) : ⌊max 0 x⌋ = ((bin x : ℕ) : ℤ) := by
  rw [Int.floor_eq_iff]
  unfold bin
  split_ifs with h1 h2 h3
  · refine ⟨by simp, max_lt (by norm_num) (by simpa using h1)⟩
  · rw [max_eq_right (by linarith)]; norm_num; constructor <;> linarith
  · rw [max_eq_right (by linarith)]; norm_num; constructor <;> linarith
  · rw [max_eq_right (by linarith)]; norm_num; constructor <;> linarith

/-- So a patch point's offset is less than 3 in either coordinate. -/
theorem offsets_lt (k : Fin 5 × Fin 5) (s c : ℝ) (h : s ^ 2 + c ^ 2 = 1) :
    off k.1 * s - off k.2 * c < 3 ∧ off k.1 * c - off k.2 * s < 3 :=
  ⟨turned_lt _ _ _ _ (off_sq_le _) (off_sq_le _) h, turned_lt _ _ _ _ (off_sq_le _) (off_sq_le _) (by linarith)⟩

/-- The real number that stands for a centre's coordinate: the coordinate itself, and -3 for -∞. -/
def centre (e : EReal) : ℝ := if e = ⊥ then -3 else e.toReal

/-- For -∞ stands -3. -/
theorem centre_bot : centre ⊥ = -3 := if_pos rfl

/-- A real coordinate stands for itself. -/
theorem centre_coe (r : ℝ) : centre (r : EReal) = r := by
  rw [centre, if_neg (EReal.coe_ne_bot r), EReal.toReal_coe]

/-- A coordinate below 1 is -∞ or a real number below 1. -/
theorem below_one {e : EReal} (h : e < 1) : e = ⊥ ∨ ∃ r : ℝ, e = (r : EReal) ∧ r < 1 := by
  induction e using EReal.rec with
  | bot => exact Or.inl rfl
  | top => simp at h
  | coe r => exact Or.inr ⟨r, rfl, by exact_mod_cast h⟩

/-- What stands for a coordinate below 1 is below 1. -/
theorem centre_lt {e : EReal} (h : e < 1) : centre e < 1 := by
  rcases below_one h with rfl | ⟨r, rfl, hr⟩
  · rw [centre_bot]; norm_num
  · rwa [centre_coe]

/-- An offset below the bound `u + 1` less the coordinate: the point's cell is at most `u`. -/
theorem lt_sub_iff {e : EReal} (h : e < 1) (u : Fin 3) (d : ℝ) (hd : d < 3) :
    ((d : EReal) < (((u : ℕ) + 1 : ℝ) : EReal) - e) ↔ (bin (centre e + d) : ℕ) ≤ (u : ℕ) := by
  rw [← lt_iff_bin]
  rcases below_one h with rfl | ⟨r, rfl, -⟩
  · rw [centre_bot, EReal.coe_sub_bot]
    have : (0 : ℝ) ≤ (u : ℕ) := Nat.cast_nonneg _
    exact ⟨fun _ => by linarith, fun _ => EReal.coe_lt_top d⟩
  · rw [centre_coe, ← EReal.coe_sub, EReal.coe_lt_coe_iff]
    constructor <;> intro <;> linarith

/-- The coordinate less the bound `u + 1` below the offset's opposite: the same of the point's cell. -/
theorem sub_lt_iff {e : EReal} (h : e < 1) (u : Fin 3) (d a : ℝ) (hd : d < 3) (ha : a = -d) :
    (e - (((u : ℕ) + 1 : ℝ) : EReal) < (a : EReal)) ↔ (bin (centre e + d) : ℕ) ≤ (u : ℕ) := by
  rw [← lt_iff_bin]
  rcases below_one h with rfl | ⟨r, rfl, -⟩
  · rw [centre_bot, EReal.bot_sub]
    have : (0 : ℝ) ≤ (u : ℕ) := Nat.cast_nonneg _
    exact ⟨fun _ => by linarith, fun _ => EReal.bot_lt_coe a⟩
  · rw [centre_coe, ← EReal.coe_sub, EReal.coe_lt_coe_iff]
    constructor <;> intro <;> linarith

/-- A point cut to 0 from below is the real point cut so. -/
theorem max_point {e : EReal} (h : e < 1) (d : ℝ) (hd : d < 3) :
    max ((0 : ℝ) : EReal) (e + (d : EReal)) = ((max 0 (centre e + d) : ℝ) : EReal) := by
  rcases below_one h with rfl | ⟨r, rfl, -⟩
  · rw [centre_bot, EReal.bot_add, max_eq_left bot_le, max_eq_left (by linarith)]
  · rw [centre_coe, ← EReal.coe_add, ← EReal.coe_strictMono.monotone.map_max]

end Cert.Count

end
-- ==== Proof.Cells.lean ====
/- What the kernel's body computes at one pixel of its block: the twenty-five turned offsets, the weight each point
   adds, the four running sums, and the sixteen counts it reads off them. Every value is one element of the body's
   intermediate arrays, at the ideal values. -/
module

public import proofs.«01_k».proof.Proof.Gen.KernelIdeal.Value
public import proofs.«01_k».proof.Proof.Patch
public import Idealize.ShloMosaic.Lib.ValueIdx
public import Idealize.ShloMosaic.Lib.Pointwise

@[expose] public section

noncomputable section

namespace Cert.KernelIdeal.Cells

open Cert.KernelIdeal Cert.KernelIdeal.Gen Cert.Count Idealize.ShloMosaic Idealize.ShloMosaic.ValueIdx

variable (x0 : Vec Ideal S1x3x112x224 .f32) (x1 : Vec Ideal S1x256x128 .f32)

/-- The body's array of turned offsets `a * sin - b * cos`, for the offsets numbered `a` and `b`. -/
def turned (a b : Fin 5) : FVec Ideal S112x224 .f32 :=
  (![![k0_pay215 x0 x1, k0_pay216 x0 x1, k0_pay217 x0 x1, k0_pay218 x0 x1, k0_pay219 x0 x1],
     ![k0_pay220 x0 x1, k0_pay221 x0 x1, k0_pay222 x0 x1, k0_pay223 x0 x1, k0_pay224 x0 x1],
     ![k0_pay225 x0 x1, k0_pay226 x0 x1, k0_pay227 x0 x1, k0_pay228 x0 x1, k0_pay229 x0 x1],
     ![k0_pay230 x0 x1, k0_pay231 x0 x1, k0_pay232 x0 x1, k0_pay233 x0 x1, k0_pay234 x0 x1],
     ![k0_pay235 x0 x1, k0_pay236 x0 x1, k0_pay237 x0 x1, k0_pay238 x0 x1, k0_pay239 x0 x1]] : Fin 5 → Fin 5 → _) a b

/-- The body's three bounds for the first coordinate: 1, 2 and 3 less the centre's. -/
def rowBound (u : Fin 3) : FVec Ideal S112x224 .f32 := (![k0_pay240 x0 x1, k0_pay241 x0 x1, k0_pay242 x0 x1] : Fin 3 → _) u

/-- The body's three bounds for the second coordinate, the other way round: the centre's less 1, 2 and 3. -/
def colBound (v : Fin 3) : FVec Ideal S112x224 .f32 := (![k0_pay243 x0 x1, k0_pay244 x0 x1, k0_pay245 x0 x1] : Fin 3 → _) v

/-- The weight array of the patch point `(a, b)`: its column's. -/
def weight (k : Fin 5 × Fin 5) : FVec Ideal S112x224 .f32 :=
  k0_pay53 (turned x0 x1 k.2 k.1) (colBound x0 x1 0) (colBound x0 x1 1) (colBound x0 x1 2)

/-- What the patch point `(a, b)` adds to the running sum of the rows up to `u`. -/
def share (u : Fin 4) (k : Fin 5 × Fin 5) : FVec Ideal S112x224 .f32 :=
  if h : u.val < 3 then
    select (cmpf .olt (turned x0 x1 k.1 k.2) (rowBound x0 x1 ⟨u, h⟩)) (weight x0 x1 k)
      (broadcast S112x224 (Scalar.ofBits .f32 0x00000000#32))
  else weight x0 x1 k

/-- The body's running sum of the rows up to `u`. -/
def running (u : Fin 4) : FVec Ideal S112x224 .f32 :=
  (![k0_pay161 (k0_pay247 x0 x1) (k0_pay252 x0 x1), k0_pay162 (k0_pay248 x0 x1) (k0_pay253 x0 x1),
     k0_pay163 (k0_pay249 x0 x1) (k0_pay254 x0 x1), addf (k0_pay250 x0 x1) (k0_pay251 x0 x1)] : Fin 4 → _) u

/-- The order in which the body adds the points up, the first apart. -/
def order : List (Fin 5 × Fin 5) :=
  [(0, 1), (0, 2), (0, 3), (0, 4), (1, 0), (1, 1), (1, 2), (1, 3), (1, 4), (2, 0), (2, 1), (2, 2),
   (2, 3), (2, 4), (3, 0), (3, 1), (3, 2), (3, 3), (3, 4), (4, 0), (4, 1), (4, 2), (4, 3), (4, 4)]

/-- A running sum is the points' shares added up in that order. -/
theorem running_eq (u : Fin 4) :
    running x0 x1 u = order.foldl (fun acc k => addf acc (share x0 x1 u k)) (share x0 x1 u (0, 0)) := by
  fin_cases u <;> rfl

/-- The constants the body reads, as real numbers: the offsets, -/
theorem const_offsets : Ideal.ofBits .f32 0xC0000000#32 = ((-2 : ℝ) : EReal) ∧ Ideal.ofBits .f32 0xBF800000#32 = ((-1 : ℝ) : EReal)
    ∧ Ideal.ofBits .f32 0x00000000#32 = ((0 : ℝ) : EReal) ∧ Ideal.ofBits .f32 0x3F800000#32 = ((1 : ℝ) : EReal)
    ∧ Ideal.ofBits .f32 0x40000000#32 = ((2 : ℝ) : EReal) ∧ Ideal.ofBits .f32 0x40400000#32 = ((3 : ℝ) : EReal) := by
  refine ⟨?_, ?_, ?_, ?_, ?_, ?_⟩ <;> simp [Ideal.ofBits, Ideal.ieee, -EReal.coe_mul] <;> norm_num

/-- the weights of the last three columns, and the base of the digits. -/
theorem const_weights : Ideal.ofBits .f32 0x3C800000#32 = ((1 / 64 : ℝ) : EReal) ∧ Ideal.ofBits .f32 0x39800000#32 = (((1 / 64) ^ 2 : ℝ) : EReal)
    ∧ Ideal.ofBits .f32 0x36800000#32 = (((1 / 64) ^ 3 : ℝ) : EReal) ∧ Ideal.ofBits .f32 0x42800000#32 = ((64 : ℝ) : EReal) := by
  refine ⟨?_, ?_, ?_, ?_⟩ <;> simp [Ideal.ofBits, Ideal.ieee, -EReal.coe_mul] <;> norm_num

end Cert.KernelIdeal.Cells

end
-- ==== Proof.Pixel.lean ====
/- The kernel's body at one pixel, as real numbers: each turned offset, each point's weight and share, each running sum,
   and so each of the sixteen counts, is the real number its name says. -/
module

public import proofs.«01_k».proof.Proof.Cells

@[expose] public section

noncomputable section

namespace Cert.KernelIdeal.Cells

open Cert.KernelIdeal Cert.KernelIdeal.Gen Cert.Count Idealize.ShloMosaic Idealize.ShloMosaic.ValueIdx

variable (x0 : Vec Ideal S1x3x112x224 .f32) (x1 : Vec Ideal S1x256x128 .f32)

/-- At pixel `p` the block holds the centre coordinates `ci` and `cj`, both below 1, and the angle's multiple of pi is the
    real number `t`. -/
structure At (p : S112x224.Idx) (ci cj : EReal) (t : ℝ) : Prop where
  row : k0_pay204 x0 x1 p = ci
  row_lt : ci < 1
  col : k0_pay205 x0 x1 p = cj
  col_lt : cj < 1
  angle : k0_pay6 (View.ld x0 r0_2) p = (t : EReal)

variable {x0 x1} {p : S112x224.Idx} {ci cj : EReal} {t : ℝ}

/-- The sine at the pixel. -/
theorem At.sine (h : At x0 x1 p ci cj t) : k0_pay7 (View.ld x0 r0_2) p = ((Real.sin t : ℝ) : EReal) := by
  show FloatOps.sin (k0_pay6 (View.ld x0 r0_2) p) = _
  rw [h.angle]; rfl

/-- The cosine at the pixel. -/
theorem At.cosine (h : At x0 x1 p ci cj t) : k0_pay8 (View.ld x0 r0_2) p = ((Real.cos t : ℝ) : EReal) := by
  show FloatOps.cos (k0_pay6 (View.ld x0 r0_2) p) = _
  rw [h.angle]; rfl

/-- The body's five multiples of the sine, by offset. -/
def sines (x0 : Vec Ideal S1x3x112x224 .f32) (x1 : Vec Ideal S1x256x128 .f32) (a : Fin 5) : FVec Ideal S112x224 .f32 :=
  (![k0_pay9 (View.ld x0 r0_2), k0_pay206 x0 x1, k0_pay207 x0 x1, k0_pay208 x0 x1, k0_pay209 x0 x1] : Fin 5 → _) a

/-- The body's five multiples of the cosine, by offset. -/
def cosines (x0 : Vec Ideal S1x3x112x224 .f32) (x1 : Vec Ideal S1x256x128 .f32) (b : Fin 5) : FVec Ideal S112x224 .f32 :=
  (![k0_pay210 x0 x1, k0_pay211 x0 x1, k0_pay212 x0 x1, k0_pay213 x0 x1, k0_pay214 x0 x1] : Fin 5 → _) b

/-- The bits of the five offsets. -/
def offBits (a : Fin 5) : BitVec 32 :=
  (![0xC0000000#32, 0xBF800000#32, 0x00000000#32, 0x3F800000#32, 0x40000000#32] : Fin 5 → _) a

/-- They stand for the offsets. -/
theorem offBits_eq (a : Fin 5) : Ideal.ofBits .f32 (offBits a) = (off a : EReal) := by
  obtain ⟨h0, h1, h2, h3, h4, -⟩ := const_offsets
  fin_cases a
  · exact h0.trans (by norm_num [off])
  · exact h1.trans (by norm_num [off])
  · exact h2.trans (by norm_num [off])
  · exact h3.trans (by norm_num [off])
  · exact h4.trans (by norm_num [off])

/-- A multiple of the sine at the pixel. -/
theorem At.sines (h : At x0 x1 p ci cj t) (a : Fin 5) : sines x0 x1 a p = ((off a * Real.sin t : ℝ) : EReal) := by
  rw [EReal.coe_mul, ← offBits_eq, ← h.sine]
  fin_cases a <;> rfl

/-- A multiple of the cosine at the pixel. -/
theorem At.cosines (h : At x0 x1 p ci cj t) (b : Fin 5) : cosines x0 x1 b p = ((off b * Real.cos t : ℝ) : EReal) := by
  rw [EReal.coe_mul, ← offBits_eq, ← h.cosine]
  fin_cases b <;> rfl

/-- A turned offset is the difference of the two multiples, -/
theorem turned_eq (a b : Fin 5) : turned x0 x1 a b = subf (Cells.sines x0 x1 a) (Cells.cosines x0 x1 b) := by
  fin_cases a <;> fin_cases b <;> rfl

/-- so a real number at the pixel. -/
theorem At.turned (h : At x0 x1 p ci cj t) (a b : Fin 5) :
    turned x0 x1 a b p = ((off a * Real.sin t - off b * Real.cos t : ℝ) : EReal) := by
  rw [turned_eq, subf_apply, h.sines, h.cosines, ← EReal.coe_sub]

/-- The bits of the bounds 1, 2 and 3. -/
def boundBits (u : Fin 3) : BitVec 32 := (![0x3F800000#32, 0x40000000#32, 0x40400000#32] : Fin 3 → _) u

/-- They stand for 1, 2 and 3. -/
theorem boundBits_eq (u : Fin 3) : Ideal.ofBits .f32 (boundBits u) = ((((u : ℕ) : ℝ) + 1 : ℝ) : EReal) := by
  obtain ⟨-, -, -, h1, h2, h3⟩ := const_offsets
  fin_cases u
  · exact h1.trans (by norm_num)
  · exact h2.trans (by norm_num)
  · exact h3.trans (by norm_num)

/-- A bound for the first coordinate, at the pixel. -/
theorem At.rowBound (h : At x0 x1 p ci cj t) (u : Fin 3) : rowBound x0 x1 u p = (((u : ℕ) + 1 : ℝ) : EReal) - ci := by
  rw [← boundBits_eq, ← h.row]
  fin_cases u <;> rfl

/-- A bound for the second coordinate, at the pixel. -/
theorem At.colBound (h : At x0 x1 p ci cj t) (v : Fin 3) : colBound x0 x1 v p = cj - (((v : ℕ) + 1 : ℝ) : EReal) := by
  rw [← boundBits_eq, ← h.col]
  fin_cases v <;> rfl

/-- A comparison of two elements chooses as their order does. -/
theorem select_lt (c d : FVec Ideal S112x224 .f32) (A B : FVec Ideal S112x224 .f32) (r s : EReal) (hc : c p = r)
    (hd : d p = s) : select (cmpf .olt c d) A B p = if r < s then A p else B p := by
  rw [select_apply, cmpf_apply, hc, hd]
  show Scalar.select (BitVec.ofBool (decide (r < s))) _ _ = _
  rw [Scalar.select_decide]

/-- A point's weight at the pixel is its column's. -/
theorem At.weight (h : At x0 x1 p ci cj t) (k : Fin 5 × Fin 5) :
    weight x0 x1 k p = ((wt (bin (py (centre cj) (Real.sin t) (Real.cos t) k)) : ℝ) : EReal) := by
  obtain ⟨w1, w2, w3, -⟩ := const_weights
  obtain ⟨-, -, -, w0, -⟩ := const_offsets
  unfold Cells.weight k0_pay53
  rw [select_lt _ _ _ _ _ _ (h.colBound 0) (h.turned _ _), select_lt _ _ _ _ _ _ (h.colBound 1) (h.turned _ _),
    select_lt _ _ _ _ _ _ (h.colBound 2) (h.turned _ _)]
  simp only [broadcast_apply]
  have e : ∀ v : Fin 3, (cj - (((v : ℕ) + 1 : ℝ) : EReal) < ((off k.2 * Real.sin t - off k.1 * Real.cos t : ℝ) : EReal))
      ↔ (bin (py (centre cj) (Real.sin t) (Real.cos t) k) : ℕ) ≤ (v : ℕ) := fun v =>
    sub_lt_iff h.col_lt v _ _ (offsets_lt k _ _ (Real.sin_sq_add_cos_sq t)).2 (by ring)
  simp only [e]
  change (if _ then Ideal.ofBits .f32 0x3F800000#32 else if _ then Ideal.ofBits .f32 0x3C800000#32
    else if _ then Ideal.ofBits .f32 0x39800000#32 else Ideal.ofBits .f32 0x36800000#32) = _
  rw [w0, w1, w2, w3]
  generalize bin (py (centre cj) (Real.sin t) (Real.cos t) k) = b
  fin_cases b <;> simp [wt]

/-- A point's share of a running sum at the pixel: its weight if its row is in the range. -/
theorem At.share (h : At x0 x1 p ci cj t) (u : Fin 4) (k : Fin 5 × Fin 5) :
    share x0 x1 u k p = ((if (bin (px (centre ci) (Real.sin t) (Real.cos t) k) : ℕ) ≤ (u : ℕ)
      then wt (bin (py (centre cj) (Real.sin t) (Real.cos t) k)) else 0 : ℝ) : EReal) := by
  obtain ⟨-, -, z, -⟩ := const_offsets
  unfold Cells.share
  split
  · next hu =>
    rw [select_lt _ _ _ _ _ _ (h.turned _ _) (h.rowBound _), h.weight]
    have e : (((off k.1 * Real.sin t - off k.2 * Real.cos t : ℝ) : EReal) < ((((⟨u.val, hu⟩ : Fin 3) : ℕ) + 1 : ℝ) : EReal) - ci)
        ↔ (bin (px (centre ci) (Real.sin t) (Real.cos t) k) : ℕ) ≤ (u : ℕ) :=
      lt_sub_iff h.row_lt ⟨u.val, hu⟩ _ (offsets_lt k _ _ (Real.sin_sq_add_cos_sq t)).1
    simp only [e]
    split_ifs
    · rfl
    · exact z
  · next hu =>
    rw [h.weight, if_pos ((bin_le _).trans (by omega))]

/-- Adding arrays up in the body's order and reading an element adds the elements up over all the points. -/
theorem foldl_apply (f : Fin 5 × Fin 5 → FVec Ideal S112x224 .f32) (p : S112x224.Idx) :
    order.foldl (fun acc k => addf acc (f k)) (f (0, 0)) p = ∑ k, f k p := by
  simp only [order, List.foldl_cons, List.foldl_nil, addf_apply, Fintype.sum_prod_type, Fin.sum_univ_five]
  abel

/-- A running sum at the pixel is the real running sum. -/
theorem At.running (h : At x0 x1 p ci cj t) (u : Fin 4) :
    running x0 x1 u p = ((upTo (px (centre ci) (Real.sin t) (Real.cos t)) (py (centre cj) (Real.sin t) (Real.cos t)) u : ℝ) : EReal) := by
  rw [running_eq, foldl_apply]
  simp only [h.share]
  unfold upTo
  exact (map_sum (⟨⟨Real.toEReal, rfl⟩, EReal.coe_add⟩ : ℝ →+ EReal) _ _).symm

end Cert.KernelIdeal.Cells

end
-- ==== Proof.Planes.lean ====
/- The sixteen planes of counts: at each pixel, plane `4 u + v` of the body's stacked array holds the number of patch
   points whose cell is `(u, v)`. -/
module

public import proofs.«01_k».proof.Proof.Pixel
public import Idealize.ShloMosaic.Lib.Pipeline.ValueKit

@[expose] public section

noncomputable section

namespace Cert.KernelIdeal.Cells

open Cert.KernelIdeal Cert.KernelIdeal.Gen Cert.Count Idealize.ShloMosaic

variable {x0 : Vec Ideal S1x3x112x224 .f32} {x1 : Vec Ideal S1x256x128 .f32}

/-- The four row sums, of four arrays of running sums. -/
def rowSumsOf (R : Fin 4 → FVec Ideal S112x224 .f32) (u : Fin 4) : FVec Ideal S112x224 .f32 :=
  (![R 0, subf (R 1) (R 0), subf (R 2) (R 1), subf (R 3) (R 2)] : Fin 4 → _) u

/-- The body's array of row sums, one per row of cells. -/
def rowSums (x0 : Vec Ideal S1x3x112x224 .f32) (x1 : Vec Ideal S1x256x128 .f32) (u : Fin 4) : FVec Ideal S112x224 .f32 :=
  rowSumsOf (running x0 x1) u

/-- What is left of an array of sums once the leading digits are taken off, times 64. -/
def restOf (a : FVec Ideal S112x224 .f32) : FVec Ideal S112x224 .f32 :=
  mulf (subf a (floor a)) (broadcast S112x224 (Scalar.ofBits .f32 0x42800000#32))

/-- The array of digits `v` of an array of sums. -/
def digitOf (a : FVec Ideal S112x224 .f32) (v : Fin 4) : FVec Ideal S112x224 .f32 :=
  (![floor a, floor (restOf a), floor (restOf (restOf a)), restOf (restOf (restOf a))] : Fin 4 → _) v

/-- Plane `q` of the stack: digit `q mod 4` of row sum `q / 4`. -/
def plane (x0 : Vec Ideal S1x3x112x224 .f32) (x1 : Vec Ideal S1x256x128 .f32) (q : Fin 16) : FVec Ideal S112x224 .f32 :=
  digitOf (rowSums x0 x1 ⟨q / 4, by omega⟩) ⟨q % 4, by omega⟩

variable {p : S112x224.Idx} {ci cj : EReal} {t : ℝ}

/-- Row sums at a pixel where the running sums are the real ones. -/
theorem rowSumsOf_real (R : Fin 4 → FVec Ideal S112x224 .f32) (X Y : Fin 5 × Fin 5 → ℝ) (h : ∀ u, R u p = ((upTo X Y u : ℝ) : EReal))
    (u : Fin 4) : rowSumsOf R u p = ((rowSum X Y u : ℝ) : EReal) := by
  have hd : ∀ a b : Fin 4, subf (R a) (R b) p = ((upTo X Y a - upTo X Y b : ℝ) : EReal) := fun a b => by
    show R a p - R b p = _
    rw [h, h, ← EReal.coe_sub]
  fin_cases u
  · exact h 0
  · exact hd 1 0
  · exact hd 2 1
  · exact hd 3 2

/-- A row sum of the body at the pixel. -/
theorem At.rowSums (h : At x0 x1 p ci cj t) (u : Fin 4) :
    rowSums x0 x1 u p = ((rowSum (px (centre ci) (Real.sin t) (Real.cos t)) (py (centre cj) (Real.sin t) (Real.cos t)) u : ℝ) : EReal) :=
  rowSumsOf_real _ _ _ h.running u

/-- Whole parts at a pixel. -/
theorem floor_real (a : FVec Ideal S112x224 .f32) (r : ℝ) (ha : a p = (r : EReal)) : floor a p = ((⌊r⌋ : ℝ) : EReal) := by
  show FloatOps.floor (a p) = _
  rw [ha]; rfl

/-- Remainders at a pixel. -/
theorem restOf_real (a : FVec Ideal S112x224 .f32) (r : ℝ) (ha : a p = (r : EReal)) : restOf a p = ((rest r : ℝ) : EReal) := by
  show (a p - floor a p) * Ideal.ofBits .f32 0x42800000#32 = _
  rw [floor_real a r ha, ha, const_weights.2.2.2, ← EReal.coe_sub, ← EReal.coe_mul]; rfl

/-- Digits at a pixel. -/
theorem digitOf_real (a : FVec Ideal S112x224 .f32) (r : ℝ) (ha : a p = (r : EReal)) (v : Fin 4) :
    digitOf a v p = ((digit r v : ℝ) : EReal) := by
  have h1 := restOf_real a r ha
  have h2 := restOf_real _ _ h1
  fin_cases v
  · exact floor_real a r ha
  · exact floor_real _ _ h1
  · exact floor_real _ _ h2
  · exact restOf_real _ _ h2

/-- The stack's plane `q` at the pixel counts the patch points of cell `(q / 4, q mod 4)`. -/
theorem At.plane (h : At x0 x1 p ci cj t) (u v : Fin 4) :
    plane x0 x1 ⟨4 * u + v, by omega⟩ p
      = ((cnt (px (centre ci) (Real.sin t) (Real.cos t)) (py (centre cj) (Real.sin t) (Real.cos t)) u v : ℝ) : EReal) := by
  have hu : (⟨(4 * u.val + v.val) / 4, by omega⟩ : Fin 4) = u := Fin.ext (show (4 * u.val + v.val) / 4 = u.val by omega)
  have hv : (⟨(4 * u.val + v.val) % 4, by omega⟩ : Fin 4) = v := Fin.ext (show (4 * u.val + v.val) % 4 = v.val by omega)
  unfold Cells.plane
  rw [hu, hv, digitOf_real _ _ (h.rowSums u) v, digit_rowSum _ _ (by simp)]

/-- The body's stack is the sixteen planes laid one after another. -/
theorem stack_eq : k0_pay270 x0 x1 = concatenate S16x112x224 0
    (List.ofFn fun q : Fin 16 => (⟨S1x112x224, shapeCast S1x112x224 (Cells.plane x0 x1 q) shapeCasts_S112x224_S1x112x224⟩ :
      (s : Shape) × (s.Idx → Ideal .f32)))
    concatenates_S1x112x224_S1x112x224_S1x112x224_S1x112x224_S1x112x224_S1x112x224_S1x112x224_S1x112x224_S1x112x224_S1x112x224_S1x112x224_S1x112x224_S1x112x224_S1x112x224_S1x112x224_S1x112x224_S16x112x224_d0 := rfl

/-- So the stack at `(q, y, x)` is plane `q` at `(y, x)`. -/
theorem stack_apply (q : Fin 16) (y : Fin 112) (x : Fin 224) : k0_pay270 x0 x1 (ix3 q y x) = Cells.plane x0 x1 q (ix2 y x) := by
  rw [stack_eq]
  refine concatenate_ofFn_unit_eq 0 _ _ _ _ rfl rfl fun n i hn _ hb => ?_
  have e : n = q := Fin.ext hn.symm
  have e1 : (i 1).val = y.val := hb 1 (by decide)
  have e2 : (i 2).val = x.val := hb 2 (by decide)
  subst e
  pointwise
  congr 1
  funext a
  fin_cases a
  · exact Fin.ext e1
  · exact Fin.ext e2

end Cert.KernelIdeal.Cells

end
-- ==== Proof.Stripe.lean ====
/- What the kernel's body writes: fourteen stripes of eight pixel rows, each the product of the weight matrix and the
   stripe's counts. Together they say what the output block holds at a channel and a pixel. -/
module

public import proofs.«01_k».proof.Proof.Planes

@[expose] public section

noncomputable section

namespace Cert.KernelIdeal.Cells

open Cert.KernelIdeal Cert.KernelIdeal.Gen Cert.Count Idealize.ShloMosaic

variable {x0 : Vec Ideal S1x3x112x224 .f32} {x1 : Vec Ideal S1x256x128 .f32}

/-- The stripe at pixel row `o`: the weight matrix times the eight rows of the counts from `o` on. -/
def stripe (C : FVec Ideal S16x112x224 .f32) (L : FVec Ideal S256x128 .f32) (o : ℕ) (h : S16x112x224.Slices ![0, o, 0] S16x8x224) :
    FVec Ideal S1x32x8x224 .f32 :=
  shapeCast S1x32x8x224 (shapeCast S32x8x224 (matmul dot_S256x128_S128x224_S256x224_1_0_0_1_n_n none L
    (shapeCast S128x224 (extractStridedSlice S16x8x224 ![0, o, 0] C h) shapeCasts_S16x8x224_S128x224)
    (constant S256x224 .f32 0x00000000#32)) shapeCasts_S256x224_S32x8x224) shapeCasts_S32x8x224_S1x32x8x224

/-- The stripe at channel `ch`, row `r` of the eight and pixel column `x`. -/
theorem stripe_apply (C : FVec Ideal S16x112x224 .f32) (L : FVec Ideal S256x128 .f32) (o : ℕ) (ho : o + 8 ≤ 112)
    (h : S16x112x224.Slices ![0, o, 0] S16x8x224) (ch : Fin 32) (r : Fin 8) (x : Fin 224) :
    stripe C L o h (ix4 0 ch r x)
      = ∑ k : Fin 128, L (ix2 ⟨ch * 8 + r, by omega⟩ k) * C (ix3 ⟨k / 8, by omega⟩ ⟨o + k % 8, by omega⟩ x) := by
  unfold stripe
  pointwise

/-- The body's stripe at pixel row `o`, read where the block's channel `ch` and pixel `(y, x)` lie in it. -/
theorem stripe_at (ch : Fin 32) (y : Fin 112) (x : Fin 224) (z : S1x32x8x224.Idx) (o : ℕ) (h1 : ch.val = (z 1).val)
    (h2 : y.val = o + (z 2).val) (h3 : x.val = (z 3).val) (ho : o % 8 = 0 ∧ o + 8 ≤ 112 := by decide)
    (h : S16x112x224.Slices ![0, o, 0] S16x8x224 := by decide) :
    stripe (k0_pay270 x0 x1) (k0_pay271 x0 x1) o h z
      = ∑ k : Fin 128, x1 (ix3 0 ⟨ch * 8 + y % 8, by omega⟩ k)
          * k0_pay270 x0 x1 (ix3 ⟨k / 8, by omega⟩ ⟨y / 8 * 8 + k % 8, by omega⟩ x) := by
  have hz2 : (z 2).val < 8 := (z 2).isLt
  have hz : z = ix4 0 ch (⟨(z 2).val, hz2⟩ : Fin 8) x := by
    refine (eq_ix4 z).trans ?_
    congr 1
    · exact Subsingleton.elim (α := Fin 1) _ _
    · exact Fin.ext h1.symm
    · exact Fin.ext h3.symm
  refine (congrArg (stripe (k0_pay270 x0 x1) (k0_pay271 x0 x1) o h) hz).trans ((stripe_apply _ _ o ho.2 h ch _ x).trans ?_)
  refine Finset.sum_congr rfl fun k _ => congrArg₂ (· * ·) ?_ (congrArg (k0_pay270 x0 x1) (congrArg₂ (ix3 _) (Fin.ext ?_) rfl))
  · unfold k0_pay271 k0_pay190
    pointwise
    congr 2
    exact Fin.ext (show ch.val * 8 + (z 2).val = ch.val * 8 + y.val % 8 by omega)
  · show o + k.val % 8 = y.val / 8 * 8 + k.val % 8
    omega

/-- The output block at a channel and a pixel: the stripe that holds the pixel's row, read there. -/
theorem block_apply (ch : Fin 32) (y : Fin 112) (x : Fin 224) :
    out0_2 x0 x1 (ix4 0 ch y x)
      = ∑ k : Fin 128, x1 (ix3 0 ⟨ch * 8 + y % 8, by omega⟩ k)
          * k0_pay270 x0 x1 (ix3 ⟨k / 8, by omega⟩ ⟨y / 8 * 8 + k % 8, by omega⟩ x) := by
  unfold out0_2
  canon_tiles z h
  all_goals
    have e := stripe_at (x0 := x0) (x1 := x1) ch y x z _ h1 (by first | exact h2 | exact h2.trans (Nat.zero_add _).symm) h3
    exact e

end Cert.KernelIdeal.Cells

end
-- ==== Proof.Weights.lean ====
/- The weight matrix the host hands to the kernel: entry `(8 ch + r, 8 q + s)` is the source's corner value of channel
   `ch` and cell `q` where `r = s`, and zero elsewhere. -/
module

public import proofs.«01_k».proof.Proof.Gen.KernelIdeal.Value
public import Idealize.ShloMosaic.Lib.Pipeline.ValueKit
public import Idealize.ShloMosaic.Lib.Pointwise
public import Idealize.ShloMosaic.Lib.Claim

@[expose] public section

noncomputable section

namespace Cert.KernelIdeal.Cells

open Cert.KernelIdeal Cert.KernelIdeal.Gen Idealize.ShloMosaic Idealize.ShloMosaic.TcCoe Idealize.SL.Sem

variable (m : (ℓ : Loc nD τ sig) → Buf (Elt Ideal) ℓ) (c : Dev nD)

/-- The number one where two remainders agree, and zero where they differ, as the host makes it of two counters. -/
theorem eye_apply (r s : Fin 8) :
    (show EReal from FloatOps.uitofp (F := Ideal) FTy.f32 (IntOp.cmpi CmpIPredicate.eq (IntOp.addi (BitVec.ofNat 32 r) 0#32) (BitVec.ofNat 32 s)))
      = if r = s then (1 : EReal) else 0 := by
  have h : IntOp.cmpi CmpIPredicate.eq (IntOp.addi (BitVec.ofNat 32 r) 0#32) (BitVec.ofNat 32 s)
      = if r = s then 1#1 else 0#1 := by
    revert r s
    decide
  rw [h]
  split_ifs
  · show (((1#1 : BitVec 1).toNat : ℝ) : EReal) = 1
    simp
  · show (((0#1 : BitVec 1).toNat : ℝ) : EReal) = 0
    simp

/-- The weight matrix at image `b`, row `i` and column `k`. -/
theorem weights_apply (b : Fin 2) (i : Fin 256) (k : Fin 128) :
    V m c main_call0_v13 (ix3 b i k)
      = (show EReal from m ((c : Thread nD τ).loc main_arg0)
          (ix4 b ⟨i / 8, by omega⟩ ⟨k / 8 / 4, by omega⟩ ⟨k / 8 % 4, by omega⟩))
        * if (⟨i % 8, by omega⟩ : Fin 8) = ⟨k % 8, by omega⟩ then 1 else 0 := by
  entry_read
  simp only [StableHlo.TRef.ofBuf_toBuf, StableHlo.TRef.toBuf, StableHlo.TRef.ofBuf, cast_eq]
  pointwise
  exact congrArg (fun e : EReal => _ * e) (eye_apply ⟨i % 8, by omega⟩ ⟨k % 8, by omega⟩)

end Cert.KernelIdeal.Cells

end
-- ==== Proof.Spec.lean ====
/- The array both programs compute, written over the two inputs alone: at image `b`, channel `ch` and pixel `(y, x)`, the
   sum of the source's corner values at the cells of the twenty-five patch points around the pixel's coordinates. -/
module

public import proofs.«01_k».proof.Proof.Patch
public import Idealize.ShloMosaic.PureOps.Ideal.Laws
public import Idealize.ShloMosaic.Lib.Pointwise

@[expose] public section

noncomputable section

namespace Cert.Synth

open Cert.Count Idealize.ShloMosaic

/-- The source images' shape. -/
abbrev Src : Shape := ⟨4, ![2, 32, 224, 224]⟩

/-- The coordinate field's shape: two coordinates and an angle for each pixel. -/
abbrev Fld : Shape := ⟨4, ![2, 3, 224, 224]⟩

/-- The float constant nearest to half a turn. -/
def half : ℝ := 13176795 / 2 ^ 22

/-- The word of `half`. -/
theorem half_bits : (Ideal.ofBits FTy.f32 0x40490FDB#32 : EReal) = (half : EReal) := by
  simp [Ideal.ofBits, Ideal.ieee, half, -EReal.coe_mul] <;> norm_num

/-- The angle at a pixel, in radians. -/
def angle (f : Fld.Idx → EReal) (b : Fin 2) (y x : Fin 224) : ℝ := (f (ix4 b 2 y x)).toReal * half

/-- A cell of the source's corner as an index of the source. -/
def cell (u : Fin 4) : Fin 224 := ⟨u, by omega⟩

/-- The row cell of a patch point of a pixel. -/
def row (f : Fld.Idx → EReal) (b : Fin 2) (y x : Fin 224) (k : Fin 5 × Fin 5) : Fin 4 :=
  bin (px (centre (f (ix4 b 0 y x))) (Real.sin (angle f b y x)) (Real.cos (angle f b y x)) k)

/-- The column cell of a patch point of a pixel. -/
def col (f : Fld.Idx → EReal) (b : Fin 2) (y x : Fin 224) (k : Fin 5 × Fin 5) : Fin 4 :=
  bin (py (centre (f (ix4 b 1 y x))) (Real.sin (angle f b y x)) (Real.cos (angle f b y x)) k)

/-- The result at image `b`, channel `ch`, pixel `(y, x)`. -/
def value (s : Src.Idx → EReal) (f : Fld.Idx → EReal) (b : Fin 2) (ch : Fin 32) (y x : Fin 224) : EReal :=
  ∑ k : Fin 5 × Fin 5, s (ix4 b ch (cell (row f b y x k)) (cell (col f b y x k)))

/-- The result as an array. -/
def array (s : Src.Idx → EReal) (f : Fld.Idx → EReal) : Src.Idx → EReal := fun i => value s f (i 0) (i 1) (i 2) (i 3)

/-- What the precondition says of a field: its coordinates lie below 1 and its angles are finite. -/
structure InRange (f : Fld.Idx → EReal) : Prop where
  row : ∀ b y x, f (ix4 b 0 y x) < 1
  col : ∀ b y x, f (ix4 b 1 y x) < 1
  angle : ∀ b y x, f (ix4 b 2 y x) ≠ ⊥ ∧ f (ix4 b 2 y x) ≠ ⊤

end Cert.Synth

end
-- ==== Proof.Blocks.lean ====
/- What one block of the kernel holds, in the arrays' own words: where each block lies in its array, and that the block the
   body leaves is the piece of the result array at its place. -/
module

public import proofs.«01_k».proof.Proof.Stripe
public import proofs.«01_k».proof.Proof.Weights
public import proofs.«01_k».proof.Proof.Spec

@[expose] public section

noncomputable section

namespace Cert.KernelIdeal.Cells

open Cert.KernelIdeal Cert.KernelIdeal.Gen Cert.Count Cert.Synth Idealize.ShloMosaic Idealize.ShloMosaic.TcCoe Idealize.SL.Sem

variable (m : (ℓ : Loc nD τ sig) → Buf (Elt Ideal) ℓ) (c : Dev nD)

/-- The source images as launched. -/
def src : Src.Idx → EReal := m ((c : Thread nD τ).loc main_arg0)

/-- The coordinate field as launched. -/
def fld : Fld.Idx → EReal := m ((c : Thread nD τ).loc main_arg1)

/-- Where the blocks of a grid point lie: the image is the point's half, the row block its remainder. -/
theorem idx : ∀ t : Fin cfg0.N, win0_0.index t = ![t.val / 2, 0, t.val % 2, 0] ∧ win0_1.index t = ![t.val / 2, 0, 0]
    ∧ win0_2.index t = ![t.val / 2, 0, t.val % 2, 0] := by
  decide +kernel

/-- A grid point is one of four. -/
theorem point_lt (t : Fin cfg0.N) : t.val < 4 := t.isLt

/-- The image of a grid point. -/
def image (t : Fin cfg0.N) : Fin 2 := ⟨t.val / 2, by have := point_lt t; omega⟩

/-- The pixel row of the whole field that row `y` of a grid point's block is. -/
def line (t : Fin cfg0.N) (y : Fin 112) : Fin 224 := ⟨t.val % 2 * 112 + y, by omega⟩

/-- The field block of a grid point. -/
theorem field_block (t : Fin cfg0.N) (k : Fin 3) (y : Fin 112) (x : Fin 224) :
    iblk m c 0 t (ix4 0 k y x) = fld m c (ix4 (image t) k (line t y) x) := by
  blk_ext [iblk, V_main_arg1, (idx t).1, image, line]

/-- The weight block of a grid point. -/
theorem weight_block (t : Fin cfg0.N) (i : Fin 256) (k : Fin 128) :
    iblk m c 1 t (ix3 0 i k) = V m c main_call0_v13 (ix3 (image t) i k) := by
  blk_ext [iblk, (idx t).2.1, image]

/-- A pixel of a block that holds the field at a place holds the place's coordinates and its angle in radians. -/
theorem At.of_field {x0 : Vec Ideal S1x3x112x224 .f32} (x1 : Vec Ideal S1x256x128 .f32) {f : Fld.Idx → EReal} (hf : InRange f)
    {b : Fin 2} {y : Fin 112} {x : Fin 224} {Y : Fin 224} (hx : ∀ k : Fin 3, x0 (ix4 0 k y x) = f (ix4 b k Y x)) :
    At x0 x1 (ix2 y x) (f (ix4 b 0 Y x)) (f (ix4 b 1 Y x)) (Synth.angle f b Y x) where
  row := by
    refine Eq.trans ?_ (hx 0)
    unfold k0_pay204 k0_pay4
    pointwise
  row_lt := hf.row b Y x
  col := by
    refine Eq.trans ?_ (hx 1)
    unfold k0_pay205 k0_pay5
    pointwise
  col_lt := hf.col b Y x
  angle := by
    have h : x0 (ix4 0 2 y x) = ((f (ix4 b 2 Y x)).toReal : EReal) :=
      (hx 2).trans (EReal.coe_toReal (hf.angle b Y x).2 (hf.angle b Y x).1).symm
    unfold k0_pay6
    pointwise
    rw [h]
    exact (congrArg (fun e : EReal => _ * e) half_bits).trans (EReal.coe_mul _ _).symm

/-- A sum over a product of two ranges, in row-major order, is a sum of sums. -/
theorem sum_rows (p n : ℕ) (g : Fin (p * n) → EReal) :
    ∑ k, g k = ∑ i : Fin p, ∑ j : Fin n, g ⟨i * n + j, by
      have := i.isLt; have := j.isLt; nlinarith [Nat.mul_le_mul_right n (Nat.succ_le_of_lt i.isLt)]⟩ := by
  rw [← Fintype.sum_prod_type']
  refine (Fintype.sum_equiv finProdFinEquiv _ _ fun ij => congrArg g (Fin.ext ?_)).symm
  simp [finProdFinEquiv, mul_comm, add_comm]

/-- A block, at a channel and a pixel: the sum over the sixteen cells of the source's corner value times the number of
    patch points in the cell. -/
theorem block_counts (t : Fin cfg0.N) (ch : Fin 32) (y : Fin 112) (x : Fin 224) :
    out0_2 (iblk m c 0 t) (iblk m c 1 t) (ix4 0 ch y x)
      = ∑ q : Fin 16, src m c (ix4 (image t) ch ⟨q / 4, by omega⟩ ⟨q % 4, by omega⟩)
          * plane (iblk m c 0 t) (iblk m c 1 t) q (ix2 y x) := by
  rw [block_apply]
  refine (sum_rows 16 8 _).trans (Finset.sum_congr rfl fun q _ => ?_)
  rw [Finset.sum_eq_single (⟨y % 8, by omega⟩ : Fin 8)]
  · rw [weight_block, weights_apply, if_pos (Fin.ext (by simp)), mul_one, stack_apply]
    have hc : (⟨(ch * 8 + y % 8) / 8, by omega⟩ : Fin 32) = ch := Fin.ext (by simp; omega)
    have hq : (⟨(q * 8 + y % 8) / 8, by omega⟩ : Fin 16) = q := Fin.ext (by simp; omega)
    have hy : (⟨y / 8 * 8 + (q * 8 + y % 8) % 8, by omega⟩ : Fin 112) = y := Fin.ext (by simp; omega)
    have hu : (⟨(q * 8 + y % 8) / 8 / 4, by omega⟩ : Fin 224) = ⟨q / 4, by omega⟩ := Fin.ext (by simp; omega)
    have hv : (⟨(q * 8 + y % 8) / 8 % 4, by omega⟩ : Fin 224) = ⟨q % 4, by omega⟩ := Fin.ext (by simp; omega)
    exact congrArg₂ (· * ·)
      ((congrArg (fun e => src m c (ix4 (image t) e _ _)) hc).trans
        ((congrArg (fun e => src m c (ix4 (image t) ch e _)) hu).trans (congrArg (fun e => src m c (ix4 (image t) ch _ e)) hv)))
      ((congrArg (fun e => plane (iblk m c 0 t) (iblk m c 1 t) e (ix2 _ x)) hq).trans
        (congrArg (fun e => plane (iblk m c 0 t) (iblk m c 1 t) q (ix2 e x)) hy))
  · intro s _ hs
    rw [weight_block, weights_apply, if_neg, mul_zero, zero_mul]
    intro h
    have := Fin.ext_iff.mp h
    exact hs (Fin.ext (by simp at this ⊢; omega))
  · exact fun h => absurd (Finset.mem_univ _) h

/-- A block of the result is the piece of the specification's array at its place. -/
theorem block_value (hf : InRange (fld m c)) (t : Fin cfg0.N) (ch : Fin 32) (y : Fin 112) (x : Fin 224) :
    out0_2 (iblk m c 0 t) (iblk m c 1 t) (ix4 0 ch y x) = value (src m c) (fld m c) (image t) ch (line t y) x := by
  have h := At.of_field (x0 := iblk m c 0 t) (iblk m c 1 t) hf (fun k => field_block m c t k y x)
  rw [block_counts]
  refine (sum_rows 4 4 _).trans (Eq.trans ?_ (sum_cnt _ _ fun u v => src m c (ix4 (image t) ch (cell u) (cell v))))
  refine Finset.sum_congr rfl fun u _ => Finset.sum_congr rfl fun v _ => congrArg₂ (· * ·) ?_ ?_
  · have hu : (⟨(u * 4 + v) / 4, by omega⟩ : Fin 224) = cell u := Fin.ext (by simp [cell]; omega)
    have hv : (⟨(u * 4 + v) % 4, by omega⟩ : Fin 224) = cell v := Fin.ext (by simp [cell])
    exact (congrArg (fun e => src m c (ix4 (image t) ch e _)) hu).trans (congrArg (fun e => src m c (ix4 (image t) ch _ e)) hv)
  · rw [← h.plane u v]
    exact congrArg (fun e => plane (iblk m c 0 t) (iblk m c 1 t) e (ix2 y x)) (Fin.ext (by simp [mul_comm]))

/-- Where an element of a grid point's result block lies in the result array. -/
theorem result_place (t : Fin cfg0.N) (ch : Fin 32) (y : Fin 112) (x : Fin 224) :
    (win0_2.blk t).view.emb (ix4 0 ch y x) = ix4 (image t) ch (line t y) x := by
  funext a
  fin_cases a <;> refine Fin.ext ?_ <;> blk_simp [(idx t).2.2, image, line] <;> rfl

/-- The result array the region leaves is the specification's. -/
theorem result (hf : InRange (fld m c)) :
    (dats m 0 c).arrAt 2 cfg0.N = array (src m c) (fld m c) := by
  refine (dats m 0 c).arrAt_eq_of_covers 2 _ (by decide +kernel) fun t _ y => ?_
  blk_simp
  rw [after0_2]
  have hy : y = ix4 0 (y 1) (y 2) (y 3) := (eq_ix4 y).trans (congrArg (fun e => ix4 e (y 1) (y 2) (y 3)) (Subsingleton.elim (α := Fin 1) _ _))
  rw [hy]
  exact (block_value m c hf t (y 1) (y 2) (y 3)).trans (congrArg (array (src m c) (fld m c)) (result_place t (y 1) (y 2) (y 3))).symm

end Cert.KernelIdeal.Cells

end
-- ==== Proof.Reference.lean ====
/- The reference in named stages: the patch's offsets, the turned patch, the points, the cells they fall in as indices of
   the source, and the sum of the gathered values. -/
module

public import proofs.«01_k».proof.Proof.Gen.ReferenceIdeal.Run
public import proofs.«01_k».proof.Proof.Spec

@[expose] public section

noncomputable section

namespace Cert.ReferenceIdeal.Stages

open Cert.ReferenceIdeal Cert.ReferenceIdeal.Gen Cert.ReferenceIdeal.Value Idealize.ShloMosaic Idealize.ShloMosaic.TcCoe Idealize.SL.Sem

/-- Five equally spaced numbers from 0 to 4. -/
def spaced : FVec Ideal S5 .f32 :=
  concatenate S5 0 [⟨S4, addf
      (mulf (broadcastInDim S4 ![0] bcast_S1_S4_0 (shapeCast _ (id (constant S_ .f32 0x00000000#32)) shapeCasts_S_S1))
        (subf (broadcastInDim S4 ![] bcast_S_S4 (constant S_ .f32 0x3F800000#32))
          (Host.divf (sitofp .f32 (iotaInDim S4 32 0)) (broadcastInDim S4 ![] bcast_S_S4 (constant S_ .f32 0x40800000#32)))))
      (mulf (broadcastInDim S4 ![0] bcast_S1_S4_0 (shapeCast _ (sitofp .f32 (constantI S_ 32 4#32)) shapeCasts_S_S1))
        (Host.divf (sitofp .f32 (iotaInDim S4 32 0)) (broadcastInDim S4 ![] bcast_S_S4 (constant S_ .f32 0x40800000#32))))⟩,
    ⟨S1, broadcastInDim S1 ![] bcast_S_S1 (sitofp .f32 (constantI S_ 32 4#32))⟩] concatenates_S4_S1_S5_d0

/-- The number 2 at each patch point: what the offsets are centred by. -/
def middle : FVec Ideal S5x5 .f32 := broadcastInDim S5x5 ![] bcast_S_S5x5 (constant S_ .f32 0x40000000#32)

/-- The offsets that vary along the patch's second axis. -/
def across : FVec Ideal S5x5 .f32 :=
  subf (shapeCast _ (broadcastInDim S1x5x5 ![0, 2] bcast_S1x5_S1x5x5_0_2 (shapeCast _ spaced shapeCasts_S5_S1x5)) shapeCasts_S1x5x5_S5x5)
    middle

/-- The offsets that vary along its first axis. -/
def down : FVec Ideal S5x5 .f32 :=
  subf (shapeCast _ (broadcastInDim S5x1x5 ![0, 1] bcast_S5x1_S5x1x5_0_1 (shapeCast _ spaced shapeCasts_S5_S5x1)) shapeCasts_S5x1x5_S5x5)
    middle

/-- Both offsets of each patch point. -/
def grid : FVec Ideal S1x1x1x5x5x2 .f32 :=
  shapeCast _ (concatenate S5x5x2 2 [⟨S5x5x1, broadcastInDim S5x5x1 ![0, 1] bcast_S5x5_S5x5x1_0_1 across⟩,
    ⟨S5x5x1, broadcastInDim S5x5x1 ![0, 1] bcast_S5x5_S5x5x1_0_1 down⟩] concatenates_S5x5x1_S5x5x1_S5x5x2_d2)
    shapeCasts_S5x5x2_S1x1x1x5x5x2

/-- The first offset, at every pixel. -/
def gridI : FVec Ideal S2x224x224x5x5x1 .f32 :=
  broadcastInDim S2x224x224x5x5x1 ![0, 1, 2, 3, 4, 5] bcast_S1x1x1x5x5x1_S2x224x224x5x5x1_0_1_2_3_4_5
    (extractStridedSlice S1x1x1x5x5x1 ![0, 0, 0, 0, 0, 0] grid slices_S1x1x1x5x5x2_S1x1x1x5x5x1_0_0_0_0_0_0)

/-- The second offset, at every pixel. -/
def gridJ : FVec Ideal S2x224x224x5x5x1 .f32 :=
  broadcastInDim S2x224x224x5x5x1 ![0, 1, 2, 3, 4, 5] bcast_S1x1x1x5x5x1_S2x224x224x5x5x1_0_1_2_3_4_5
    (extractStridedSlice S1x1x1x5x5x1 ![0, 0, 0, 0, 0, 1] grid slices_S1x1x1x5x5x2_S1x1x1x5x5x1_0_0_0_0_0_1)

variable (f : FVec Ideal S2x3x224x224 .f32)

/-- Each pixel's angle in radians. -/
def angles : FVec Ideal S2x224x224x1x1x1 .f32 :=
  mulf (shapeCast _ (transpose S2x224x224x1 [0, 2, 3, 1]
      (extractStridedSlice S2x1x224x224 ![0, 2, 0, 0] f slices_S2x3x224x224_S2x1x224x224_0_2_0_0)
      transposes_S2x1x224x224_S2x224x224x1_0_2_3_1) shapeCasts_S2x224x224x1_S2x224x224x1x1x1)
    (broadcastInDim S2x224x224x1x1x1 ![] bcast_S_S2x224x224x1x1x1 (constant S_ .f32 0x40490FDB#32))

/-- A number per pixel, at each of the pixel's patch points. -/
def spread (v : FVec Ideal S2x224x224x1x1x1 .f32) : FVec Ideal S2x224x224x5x5x1 .f32 :=
  broadcastInDim S2x224x224x5x5x1 ![0, 1, 2, 3, 4, 5] bcast_S2x224x224x1x1x1_S2x224x224x5x5x1_0_1_2_3_4_5 v

/-- The turned offset in the first coordinate. -/
def turnI : FVec Ideal S2x224x224x5x5x1 .f32 :=
  subf (mulf gridI (spread (Host.sin (angles f)))) (mulf gridJ (spread (Host.cos (angles f))))

/-- The turned offset in the second coordinate. -/
def turnJ : FVec Ideal S2x224x224x5x5x1 .f32 :=
  subf (mulf gridI (spread (Host.cos (angles f)))) (mulf gridJ (spread (Host.sin (angles f))))

/-- The patch points: the pixel's coordinates plus the turned offsets. -/
def points : FVec Ideal S2x224x224x5x5x2 .f32 :=
  addf (broadcastInDim S2x224x224x5x5x2 ![0, 1, 2, 3, 4, 5] bcast_S2x224x224x1x1x2_S2x224x224x5x5x2_0_1_2_3_4_5
      (shapeCast _ (transpose S2x224x224x2 [0, 2, 3, 1]
        (extractStridedSlice S2x2x224x224 ![0, 0, 0, 0] f slices_S2x3x224x224_S2x2x224x224_0_0_0_0)
        transposes_S2x2x224x224_S2x224x224x2_0_2_3_1) shapeCasts_S2x224x224x2_S2x224x224x1x1x2))
    (concatenate S2x224x224x5x5x2 5 [⟨S2x224x224x5x5x1, turnI f⟩, ⟨S2x224x224x5x5x1, turnJ f⟩]
      concatenates_S2x224x224x5x5x1_S2x224x224x5x5x1_S2x224x224x5x5x2_d5)

/-- A coordinate cut to the source's range, as a whole number. -/
def whole (v : FVec Ideal S2x224x224x5x5 .f32) : IVec S2x224x224x5x5 32 :=
  fptosi 32 (minimumf (broadcastInDim S2x224x224x5x5 ![] bcast_S_S2x224x224x5x5 (sitofp .f32 (constantI S_ 32 223#32)))
    (maximumf (broadcastInDim S2x224x224x5x5 ![] bcast_S_S2x224x224x5x5 (id (constant S_ .f32 0x00000000#32))) v))

/-- A whole number as an index: a negative one counts from the end. -/
def wrapped (v : IVec S2x224x224x5x5 32) : IVec S2x224x224x5x5x1 32 :=
  broadcastInDim S2x224x224x5x5x1 ![0, 1, 2, 3, 4] bcast_S2x224x224x5x5_S2x224x224x5x5x1_0_1_2_3_4
    (select (cmpi .slt v (broadcastInDim S2x224x224x5x5 ![] bcast_S_S2x224x224x5x5 (constantI S_ 32 0#32)))
      (addi v (broadcastInDim S2x224x224x5x5 ![] bcast_S_S2x224x224x5x5 (constantI S_ 32 224#32))) v)

/-- The points' first coordinates. -/
def pointsI : FVec Ideal S2x224x224x5x5 .f32 :=
  shapeCast _ (extractStridedSlice S2x224x224x5x5x1 ![0, 0, 0, 0, 0, 0] (points f)
    slices_S2x224x224x5x5x2_S2x224x224x5x5x1_0_0_0_0_0_0) shapeCasts_S2x224x224x5x5x1_S2x224x224x5x5

/-- The points' second coordinates. -/
def pointsJ : FVec Ideal S2x224x224x5x5 .f32 :=
  shapeCast _ (extractStridedSlice S2x224x224x5x5x1 ![0, 0, 0, 0, 0, 1] (points f)
    slices_S2x224x224x5x5x2_S2x224x224x5x5x1_0_0_0_0_0_1) shapeCasts_S2x224x224x5x5x1_S2x224x224x5x5

/-- The indices the reference gathers at. -/
def indices : IVec S2x224x224x5x5x2 32 :=
  concatenate S2x224x224x5x5x2 5 [⟨S2x224x224x5x5x1, wrapped (whole (pointsI f))⟩, ⟨S2x224x224x5x5x1, wrapped (whole (pointsJ f))⟩]
    concatenates_S2x224x224x5x5x1_S2x224x224x5x5x1_S2x224x224x5x5x2_d5

/-- The source's values at the points' cells. -/
def gathered (s : FVec Ideal S2x32x224x224 .f32) : FVec Ideal S2x224x224x5x5x32 .f32 :=
  Host.gather gather_S2x224x224x32_S2x224x224x5x5x2_S2x224x224x5x5x32_5_12_0_0_12_5_11132
    (transpose S2x224x224x32 [0, 2, 3, 1] s transposes_S2x32x224x224_S2x224x224x32_0_2_3_1) (indices f)

/-- The reference's result. -/
def total (s : FVec Ideal S2x32x224x224 .f32) : FVec Ideal S2x32x224x224 .f32 :=
  transpose S2x32x224x224 [0, 3, 1, 2] (Host.reduceAdd (gathered f s) (constant S_ .f32 0x00000000#32)
    reducesTo_S2x224x224x5x5x32_S2x224x224x32_d4_3 h_S_) transposes_S2x224x224x32_S2x32x224x224_0_3_1_2

variable (m : (ℓ : Loc nD τ sig) → Buf (Elt Ideal) ℓ) (c : Dev nD)

/-- The stages compose to the reference's printed result. -/
theorem res_eq : res_main_v77 m c = total (m ((c : Thread nD τ).loc main_arg1)) (m ((c : Thread nD τ).loc main_arg0)) := by
  unfold res_main_v77
  rfl

end Cert.ReferenceIdeal.Stages

end
-- ==== Proof.Points.lean ====
/- The reference's stages read at an index: each patch point is the real point of the specification. -/
module

public import proofs.«01_k».proof.Proof.Reference

@[expose] public section

noncomputable section

namespace Cert.ReferenceIdeal.Stages

open Cert.ReferenceIdeal Cert.ReferenceIdeal.Gen Cert.Count Cert.Synth Idealize.ShloMosaic

/-- The equally spaced numbers are 0, 1, 2, 3, 4. -/
theorem spaced_apply (k : Fin 5) : spaced (ix1 k) = ((k : ℝ) : EReal) := by
  unfold spaced
  pointwise
  have h0 : id (constant (F := Ideal) S_ FTy.f32 0#32) ix0 = ((0 : ℝ) : EReal) := by
    show Ideal.ofBits FTy.f32 0#32 = _
    simp [Ideal.ofBits, Ideal.ieee]
  have h4 : (Ideal.ofBits FTy.f32 1082130432#32 : EReal) = ((4 : ℝ) : EReal) := by
    simp [Ideal.ofBits, Ideal.ieee, -EReal.coe_mul] <;> norm_num
  have hk : FloatOps.sitofp (F := Ideal) FTy.f32 (BitVec.ofNat 32 k) = ((k : ℝ) : EReal) := by
    show (((BitVec.ofNat 32 k).toInt : ℝ) : EReal) = _
    have : (BitVec.ofNat 32 k).toInt = (k : ℕ) := by revert k; decide
    rw [this]; rfl
  have hf : FloatOps.sitofp (F := Ideal) FTy.f32 4#32 = ((4 : ℝ) : EReal) := by
    show (((4#32 : BitVec 32).toInt : ℝ) : EReal) = _
    rw [show (4#32 : BitVec 32).toInt = 4 by decide]
    norm_num
  rw [h0, hk, hf, h4, Ideal.div_coe (by norm_num)]
  split_ifs with h
  · simp only [← EReal.coe_one, ← EReal.coe_mul, ← EReal.coe_sub, ← EReal.coe_add]
    congr 1; ring
  · have : (k : ℕ) = 4 := by omega
    rw [this]; norm_num

/-- The constant the offsets are centred by. -/
theorem two_bits : (Ideal.ofBits FTy.f32 1073741824#32 : EReal) = ((2 : ℝ) : EReal) := by
  simp [Ideal.ofBits, Ideal.ieee, -EReal.coe_mul] <;> norm_num

/-- An offset along the second axis. -/
theorem across_apply (p q : Fin 5) : across (ix2 p q) = (off q : EReal) := by
  unfold across middle
  pointwise
  rw [spaced_apply, two_bits]
  rfl

/-- An offset along the first axis. -/
theorem down_apply (p q : Fin 5) : down (ix2 p q) = (off p : EReal) := by
  unfold down middle
  pointwise
  rw [spaced_apply, two_bits]
  rfl

variable (b : Fin 2) (y x : Fin 224) (p q : Fin 5)

/-- The first offset at a pixel's patch point. -/
theorem gridI_apply : gridI (ix6 b y x p q 0) = (off q : EReal) := by
  unfold gridI grid
  pointwise
  exact across_apply p q

/-- The second offset there. -/
theorem gridJ_apply : gridJ (ix6 b y x p q 0) = (off p : EReal) := by
  unfold gridJ grid
  pointwise
  exact down_apply p q

variable (f : FVec Ideal S2x3x224x224 .f32)

/-- A pixel's angle in radians. -/
theorem angles_apply : angles f (ix6 b y x 0 0 0) = f (ix4 b 2 y x) * (half : EReal) := by
  unfold angles
  pointwise
  exact congrArg (fun e : EReal => _ * e) half_bits

/-- A number per pixel, read at a patch point, is the pixel's. -/
theorem spread_apply (v : FVec Ideal S2x224x224x1x1x1 .f32) : spread v (ix6 b y x p q 0) = v (ix6 b y x 0 0 0) := by
  unfold spread
  pointwise

/-- A patch point's first coordinate. -/
theorem pointsI_apply : pointsI f (ix5 b y x p q) = f (ix4 b 0 y x) + turnI f (ix6 b y x p q 0) := by
  unfold pointsI points
  pointwise

/-- A patch point's second coordinate. -/
theorem pointsJ_apply : pointsJ f (ix5 b y x p q) = f (ix4 b 1 y x) + turnJ f (ix6 b y x p q 0) := by
  unfold pointsJ points
  pointwise

variable {f} (hf : InRange f)

include hf

/-- In range, the angle is a real number. -/
theorem angles_real : angles f (ix6 b y x 0 0 0) = (Synth.angle f b y x : EReal) := by
  rw [angles_apply, Synth.angle, EReal.coe_mul, EReal.coe_toReal (hf.angle b y x).2 (hf.angle b y x).1]

/-- In range, the turned offset in the first coordinate is a real number. -/
theorem turnI_real : turnI f (ix6 b y x p q 0)
    = ((off q * Real.sin (Synth.angle f b y x) - off p * Real.cos (Synth.angle f b y x) : ℝ) : EReal) := by
  show gridI (ix6 b y x p q 0) * spread (Host.sin (angles f)) (ix6 b y x p q 0)
    - gridJ (ix6 b y x p q 0) * spread (Host.cos (angles f)) (ix6 b y x p q 0) = _
  rw [spread_apply, spread_apply, gridI_apply, gridJ_apply]
  show (off q : EReal) * FloatOps.sin (angles f (ix6 b y x 0 0 0)) - (off p : EReal) * FloatOps.cos (angles f (ix6 b y x 0 0 0)) = _
  rw [angles_real b y x hf]
  rfl

/-- And in the second. -/
theorem turnJ_real : turnJ f (ix6 b y x p q 0)
    = ((off q * Real.cos (Synth.angle f b y x) - off p * Real.sin (Synth.angle f b y x) : ℝ) : EReal) := by
  show gridI (ix6 b y x p q 0) * spread (Host.cos (angles f)) (ix6 b y x p q 0)
    - gridJ (ix6 b y x p q 0) * spread (Host.sin (angles f)) (ix6 b y x p q 0) = _
  rw [spread_apply, spread_apply, gridI_apply, gridJ_apply]
  show (off q : EReal) * FloatOps.cos (angles f (ix6 b y x 0 0 0)) - (off p : EReal) * FloatOps.sin (angles f (ix6 b y x 0 0 0)) = _
  rw [angles_real b y x hf]
  rfl

/-- In range, a patch point's first coordinate is the pixel's plus a real number. -/
theorem pointsI_real : pointsI f (ix5 b y x p q)
    = f (ix4 b 0 y x)
      + ((off q * Real.sin (Synth.angle f b y x) - off p * Real.cos (Synth.angle f b y x) : ℝ) : EReal) := by
  rw [pointsI_apply, turnI_real b y x p q hf]

/-- And its second coordinate. -/
theorem pointsJ_real : pointsJ f (ix5 b y x p q)
    = f (ix4 b 1 y x)
      + ((off q * Real.cos (Synth.angle f b y x) - off p * Real.sin (Synth.angle f b y x) : ℝ) : EReal) := by
  rw [pointsJ_apply, turnJ_real b y x p q hf]

omit hf

/-- A patch point, cut to the source's range, has its cell as whole part: the centre's coordinate `e` is below 1 and the
    offset `d` below 3. -/
theorem whole_apply (v : FVec Ideal S2x224x224x5x5 .f32) (e : EReal) (he : e < 1) (d : ℝ) (hd : d < 3)
    (hv : v (ix5 b y x p q) = e + (d : EReal)) : whole v (ix5 b y x p q) = BitVec.ofNat 32 (bin (centre e + d)) := by
  have hr : centre e + d < 4 := by linarith [centre_lt he]
  unfold whole
  pointwise
  rw [hv]
  have h0 : id (constant (F := Ideal) S_ FTy.f32 0#32) ix0 = ((0 : ℝ) : EReal) := by
    show Ideal.ofBits FTy.f32 0#32 = _
    simp [Ideal.ofBits, Ideal.ieee]
  have hc : FloatOps.sitofp (F := Ideal) FTy.f32 223#32 = ((223 : ℝ) : EReal) := by
    show (((223#32 : BitVec 32).toInt : ℝ) : EReal) = _
    rw [show (223#32 : BitVec 32).toInt = 223 by decide]
    norm_num
  rw [h0, hc, max_point he d hd]
  generalize centre e + d = r at hr ⊢
  rw [← EReal.coe_strictMono.monotone.map_min,
    min_eq_right (max_le (by norm_num) (by linarith) : max 0 r ≤ (223 : ℝ))]
  show BitVec.ofInt 32 (max (-(2 ^ 31 : ℕ)) (min ((2 ^ 31 : ℕ) - 1) (if 0 ≤ max 0 r then ⌊max 0 r⌋ else ⌈max 0 r⌉))) = _
  rw [if_pos (le_max_left _ _), floor_max_eq_bin r hr]
  generalize bin r = k
  revert k
  decide

/-- A cell as an index is itself: it is not negative. -/
theorem wrapped_apply (v : IVec S2x224x224x5x5 32) (k : Fin 4) (hv : v (ix5 b y x p q) = BitVec.ofNat 32 k) :
    wrapped v (ix6 b y x p q 0) = BitVec.ofNat 32 k := by
  unfold wrapped
  pointwise
  rw [hv]
  clear hv
  revert k
  decide

/-- A cell as a gather's start, clamped to the source's range, is itself. -/
theorem clamped (k : Fin 4) : min (BitVec.ofNat 32 k).toInt.toNat 223 + 0 + 0 = k.val := by
  revert k
  decide

include hf

/-- The first index gathered at is the row cell. -/
theorem indices_row : indices f (ix6 b y x p q 0) = BitVec.ofNat 32 (row f b y x (q, p)) := by
  unfold indices
  pointwise
  exact wrapped_apply b y x p q _ _ (whole_apply b y x p q _ _ (hf.row b y x) _
    (offsets_lt (q, p) _ _ (Real.sin_sq_add_cos_sq _)).1 (pointsI_real b y x p q hf))

/-- The second index gathered at is the column cell. -/
theorem indices_col : indices f (ix6 b y x p q 1) = BitVec.ofNat 32 (col f b y x (q, p)) := by
  unfold indices
  pointwise
  exact wrapped_apply b y x p q _ _ (whole_apply b y x p q _ _ (hf.col b y x) _
    (offsets_lt (q, p) _ _ (Real.sin_sq_add_cos_sq _)).2 (pointsJ_real b y x p q hf))

omit hf

/-- How the reference's gather reads its operand. -/
abbrev reads : GatherDims S2x224x224x32 S2x224x224x5x5x2 S2x224x224x5x5x32 :=
  gather_S2x224x224x32_S2x224x224x5x5x2_S2x224x224x5x5x32_5_12_0_0_12_5_11132

variable (idx : IVec S2x224x224x5x5x2 32) (ch : Fin 32)

/-- The gather's start on the source's row axis is the first index, clamped. -/
theorem start_row : reads.start (ix6 b y x p q ch) idx 1 = min (idx (ix6 b y x p q 0)).toInt.toNat 223 := by
  unfold GatherDims.start
  rw [dif_pos (by decide)]
  refine congrArg (fun i => min (idx i).toInt.toNat 223) ?_
  funext a
  fin_cases a <;> rfl

/-- On the column axis it is the second index, clamped. -/
theorem start_col : reads.start (ix6 b y x p q ch) idx 2 = min (idx (ix6 b y x p q 1)).toInt.toNat 223 := by
  unfold GatherDims.start
  rw [dif_pos (by decide)]
  refine congrArg (fun i => min (idx i).toInt.toNat 223) ?_
  funext a
  fin_cases a <;> rfl

/-- Where the gather reads: image and channel of the result, row and column of the two indices. -/
theorem reads_at (u v : Fin 4) (hu : idx (ix6 b y x p q 0) = BitVec.ofNat 32 u) (hv : idx (ix6 b y x p q 1) = BitVec.ofNat 32 v) :
    reads.operandIdx (ix6 b y x p q ch) idx = ix4 b (cell u) (cell v) ch := by
  funext a
  fin_cases a <;> refine Fin.ext ?_
  · show 0 + b.val + 0 = b.val
    omega
  · show reads.start (ix6 b y x p q ch) idx 1 + 0 + 0 = u.val
    rw [start_row, hu]
    exact clamped u
  · show reads.start (ix6 b y x p q ch) idx 2 + 0 + 0 = v.val
    rw [start_col, hv]
    exact clamped v
  · show 0 + 0 + ch.val = ch.val
    omega

/-- What is gathered at a patch point is the source's value at the point's cell. -/
theorem gathered_apply (hf : InRange f) (s : FVec Ideal S2x32x224x224 .f32) :
    gathered f s (ix6 b y x p q ch) = s (ix4 b ch (cell (row f b y x (q, p))) (cell (col f b y x (q, p)))) := by
  unfold gathered Host.gather
  rw [reads_at b y x p q _ ch _ _ (indices_row b y x p q hf) (indices_col b y x p q hf)]
  pointwise

/-- The axes the reference's sum keeps. -/
theorem drop_eq (i : S2x224x224x5x5x32.Idx) :
    reducesTo_S2x224x224x5x5x32_S2x224x224x32_d4_3.drop i = ix4 (i 0) (i 1) (i 2) (i 5) := by
  funext a
  fin_cases a <;> rfl

/-- The reference's sum over a patch is a sum over its twenty-five points. -/
theorem sum_patch (g : FVec Ideal S2x224x224x5x5x32 .f32) :
    Ideal.hostReduceAdd reducesTo_S2x224x224x5x5x32_S2x224x224x32_d4_3 g 0 (ix4 b y x ch)
      = ∑ k : Fin 5 × Fin 5, g (ix6 b y x k.2 k.1 ch) := by
  show (0 : EReal) + ∑ i ∈ Finset.univ.filter (fun i => reducesTo_S2x224x224x5x5x32_S2x224x224x32_d4_3.drop i = ix4 b y x ch), g i = _
  rw [zero_add]
  refine Finset.sum_nbij' (fun i => ((i 4 : Fin 5), (i 3 : Fin 5))) (fun k => ix6 b y x k.2 k.1 ch) ?_ ?_ ?_ ?_ ?_
  · exact fun _ _ => Finset.mem_univ _
  · intro k _
    rw [Finset.mem_filter, drop_eq]
    exact ⟨Finset.mem_univ _, rfl⟩
  · intro i hi
    have h := (Finset.mem_filter.mp hi).2
    rw [drop_eq] at h
    have h0 : i 0 = b := congrFun h 0
    have h1 : i 1 = y := congrFun h 1
    have h2 : i 2 = x := congrFun h 2
    have h5 : i 5 = ch := congrFun h 3
    subst h0 h1 h2 h5
    exact (ValueIdx.eq_ix6 i).symm
  · exact fun _ _ => rfl
  · intro i hi
    have h := (Finset.mem_filter.mp hi).2
    rw [drop_eq] at h
    have h0 : i 0 = b := congrFun h 0
    have h1 : i 1 = y := congrFun h 1
    have h2 : i 2 = x := congrFun h 2
    have h5 : i 5 = ch := congrFun h 3
    subst h0 h1 h2 h5
    exact congrArg g (ValueIdx.eq_ix6 i)

/-- The reference's result is the specification's. -/
theorem total_apply (hf : InRange f) (s : FVec Ideal S2x32x224x224 .f32) : total f s (ix4 b ch y x) = value s f b ch y x := by
  unfold total
  pointwise
  rw [sum_patch]
  exact Finset.sum_congr rfl fun k _ => gathered_apply b y x k.2 k.1 ch hf s

/-- As arrays. -/
theorem total_eq (hf : InRange f) (s : FVec Ideal S2x32x224x224 .f32) : total f s = array s f := by
  funext i
  rw [eq_ix4 i]
  exact total_apply (i 0) (i 2) (i 3) (i 1) hf s

end Cert.ReferenceIdeal.Stages

end
-- ==== Proof.Field.lean ====
/- What the precondition says of a coordinate field, element by element. -/
module

public import proofs.«01_k».proof.Proof.Gen.Pre_near_corner
public import proofs.«01_k».proof.Proof.Spec
public import Idealize.ShloMosaic.Lib.ReduceAll
public import Idealize.ShloMosaic.Lib.WordArith

@[expose] public section

noncomputable section

namespace Cert.Synth

open Cert.Pre_near_corner Cert.Pre_near_corner.Gen Idealize.ShloMosaic

/-- A shape without axes has one index. -/
instance : Subsingleton S_.Idx := ⟨fun _ _ => funext fun a => a.elim0⟩

/-- The bit of a comparison with 1: an element lies below 1. -/
theorem lt_of_bit (e : EReal) (h : BitVec.ofBool (decide (e < 1)) = 1#1) : e < 1 := by
  simpa only [WordArith.ofBool_eq_one_iff, decide_eq_true_eq] using h

/-- The bit of a comparison of the magnitude with infinity: an element is finite. -/
theorem finite_of_bit (e : EReal) (h : BitVec.ofBool (decide (max e (-e) < ⊤)) = 1#1) :
    e ≠ ⊥ ∧ e ≠ ⊤ := by
  have h : max e (-e) < ⊤ := by
    simpa only [WordArith.ofBool_eq_one_iff, decide_eq_true_eq] using h
  constructor <;> rintro rfl <;> simp at h

/-- The precondition puts a field in range. -/
theorem inRange_of_pre (s : FVec Ideal S2x32x224x224 .f32) (f : FVec Ideal S2x3x224x224 .f32)
    (h : Cert.Pre_near_corner.fn (F := Ideal) s f = fun _ => 1#1) : InRange f := by
  have h0 := congrFun h ix0
  dsimp only [Cert.Pre_near_corner.fn] at h0
  obtain ⟨hc, ha⟩ := (show ∀ a b : BitVec 1, IntOp.andi a b = 1#1 → a = 1#1 ∧ b = 1#1 by decide) _ _ h0
  replace hc := Host.reduce_andi_all _ _ _ _ _ hc
  replace ha := Host.reduce_andi_all _ _ _ _ _ ha
  refine ⟨fun b y x => lt_of_bit _ ?_, fun b y x => lt_of_bit _ ?_,
    fun b y x => finite_of_bit _ ?_⟩
  · have e := hc (ix4 b 0 y x)
    pointwise at e
    exact e
  · have e := hc (ix4 b 1 y x)
    pointwise at e
    exact e
  · have e := ha (ix4 b 0 y x)
    pointwise at e
    exact e

end Cert.Synth

end
-- ==== Proof.lean ====
/- The certificate: the three programs run and leave their arguments as they were, and the kernel and
   the reference end with the same array, the synthesised stripes of `Cert.Synth.array`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_near_corner
public import proofs.«01_k».proof.Proof.Gen.KernelIdeal.Value
public import proofs.«01_k».proof.Proof.Gen.ReferenceIdeal.Run
public import proofs.«01_k».proof.Proof.Blocks
public import proofs.«01_k».proof.Proof.Reference
public import proofs.«01_k».proof.Proof.Points
public import proofs.«01_k».proof.Proof.Field
public import Idealize.ShloMosaic.Adequacy
public import Idealize.ShloMosaic.Init

@[expose] public section

noncomputable section

namespace Cert.Proof

open Idealize.ShloMosaic Idealize.SL.Sem

/-- The reference runs from any memory, leaves its arguments unchanged and every semaphore at zero. -/
theorem reference_frame
    (m : (ℓ : Loc ReferenceIdeal.nD ReferenceIdeal.τ ReferenceIdeal.sig) → Buf (Elt Ideal) ℓ)
    (ρ : Dev ReferenceIdeal.nD → PrngReg) :
    θ_run (ReferenceIdeal.defs (F := Ideal))
      (onTc (τ := ReferenceIdeal.τ) (ReferenceIdeal.main (F := Ideal))) ⟨m, fun _ => 0, ρ⟩ fun r =>
      (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1))
      ∧ r.2.sem = fun _ => 0 :=
  (θ_run ReferenceIdeal.defs _ _).mono
    (fun r h => ⟨fun c => (h c).2, sem_eq_zero_of_no_sems (by decide) r.2⟩)
    (ReferenceIdeal.Value.run m ρ)

/-- On a field the precondition admits, kernel and reference both end with the array `Synth.array`
    of the sources and the field. -/
theorem same_result : algebraic_KernelIdeal_ReferenceIdeal_pre_near_corner
    (hKernelIdeal := KernelIdeal.Gen.facts) (hReferenceIdeal := ReferenceIdeal.Gen.facts)
    (hPre_near_corner := Pre_near_corner.Gen.facts) := by
  intro m ρ m' ρ' hpre hargs
  have hf (c : Dev KernelIdeal.nD) : Synth.InRange (KernelIdeal.Cells.fld m c) :=
    Synth.inRange_of_pre _ _ (hpre c)
  refine ⟨fun c => Synth.array (KernelIdeal.Cells.src m c) (KernelIdeal.Cells.fld m c), ?_, ?_⟩
  · exact (θ_run KernelIdeal.defs _ _).mono
      (fun r h c => ⟨(h c).1.trans (KernelIdeal.Cells.result m c (hf c)), (h c).2⟩)
      (KernelIdeal.Value.run_blocks m ρ)
  · refine (θ_run ReferenceIdeal.defs _ _).mono (fun r h c => ⟨(h c).1.trans ?_, (h c).2⟩)
      (ReferenceIdeal.Value.run m' ρ')
    rw [ReferenceIdeal.Stages.res_eq, (hargs c).1, (hargs c).2]
    exact ReferenceIdeal.Stages.total_eq (hf c) (KernelIdeal.Cells.src m c)

/-- Every claim of the certificate. -/
theorem claim : Cert.Claim :=
  ⟨Kernel.Gen.facts, KernelIdeal.Gen.facts, ReferenceIdeal.Gen.facts, Pre_near_corner.Gen.facts,
    fun m ρ _ => Kernel.Gen.frame m ρ, fun m ρ _ => KernelIdeal.Gen.frame m ρ,
    fun m ρ _ => KernelIdeal.Gen.frame m ρ, fun m ρ _ => reference_frame m ρ,
    fun m ρ _ => reference_frame m ρ, trivial, same_result⟩

end Cert.Proof

end
